-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_plane [hPre_in_plane : Cert.Pre_in_plane.Facts] (m : (ℓ : Loc Cert.KernelIdeal.nD Cert.KernelIdeal.τ Cert.KernelIdeal.sig) → Buf (Elt Ideal) ℓ) : Prop :=
  ∀ c : Dev Cert.KernelIdeal.nD,
    (Cert.Pre_in_plane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_plane [hPre_in_plane : Cert.Pre_in_plane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_plane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_plane [hKernelIdeal : Cert.KernelIdeal.Facts] [hPre_in_plane : Cert.Pre_in_plane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_plane m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_plane [hReferenceIdeal : Cert.ReferenceIdeal.Facts] [hPre_in_plane : Cert.Pre_in_plane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_plane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_settled_pre_in_plane [hKernelIdeal : Cert.KernelIdeal.Facts] [hReferenceIdeal : Cert.ReferenceIdeal.Facts] [hPre_in_plane : Cert.Pre_in_plane.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_plane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          (∀ i : (⟨4, ![4, 96, 384, 384]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v11) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 96, 384, 384]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v29) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_one_of_those_sent_pre_in_plane [hKernelIdeal : Cert.KernelIdeal.Facts] [hPre_in_plane : Cert.Pre_in_plane.Facts] [hPost_one_of_those_sent : Cert.Post_one_of_those_sent.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_plane m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_one_of_those_sent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v11))) = (fun _ => 1#1))

def Claim : Prop :=
  ∃ (hKernel : Cert.Kernel.Facts) (hKernelIdeal : Cert.KernelIdeal.Facts) (hReferenceIdeal : Cert.ReferenceIdeal.Facts) (hPre_in_plane : Cert.Pre_in_plane.Facts) (hPost_one_of_those_sent : Cert.Post_one_of_those_sent.Facts) (hOn_settled : Cert.On_settled.Facts),
    quiescent_Kernel (hKernel := hKernel)
    ∧ quiescent_KernelIdeal (hKernelIdeal := hKernelIdeal)
    ∧ quiescent_KernelIdeal_pre_in_plane (hKernelIdeal := hKernelIdeal) (hPre_in_plane := hPre_in_plane)
    ∧ quiescent_ReferenceIdeal (hReferenceIdeal := hReferenceIdeal)
    ∧ quiescent_ReferenceIdeal_pre_in_plane (hReferenceIdeal := hReferenceIdeal) (hPre_in_plane := hPre_in_plane)
    ∧ preserves_Kernel_KernelIdeal
    ∧ algebraic_KernelIdeal_ReferenceIdeal_on_settled_pre_in_plane (hKernelIdeal := hKernelIdeal) (hReferenceIdeal := hReferenceIdeal) (hPre_in_plane := hPre_in_plane) (hOn_settled := hOn_settled)
    ∧ holds_KernelIdeal_one_of_those_sent_pre_in_plane (hKernelIdeal := hKernelIdeal) (hPre_in_plane := hPre_in_plane) (hPost_one_of_those_sent := hPost_one_of_those_sent)
-- ==== On_settled.lean ====
abbrev S4x96x192x192 : Shape := ⟨4, ![4, 96, 192, 192]⟩
abbrev S4x96x36864 : Shape := ⟨3, ![4, 96, 36864]⟩
abbrev S4 : Shape := ⟨1, ![4]⟩
abbrev S4x1x1 : Shape := ⟨3, ![4, 1, 1]⟩
abbrev S96 : Shape := ⟨1, ![96]⟩
abbrev S1x96x1 : Shape := ⟨3, ![1, 96, 1]⟩
abbrev S_ : Shape := ⟨0, ![]⟩
abbrev S4x96x147456 : Shape := ⟨3, ![4, 96, 147456]⟩
abbrev S4x96x36864x1 : Shape := ⟨4, ![4, 96, 36864, 1]⟩
abbrev S4x96x36864x3 : Shape := ⟨4, ![4, 96, 36864, 3]⟩
abbrev S4x96x384x384 : Shape := ⟨4, ![4, 96, 384, 384]⟩

class Facts : Prop where
  shapeCasts_S4x96x192x192_S4x96x36864 : S4x96x192x192.ShapeCasts S4x96x36864
  bcast_S4_S4x1x1_0 : S4.BroadcastsInDim S4x1x1 (![0] : Fin 1 → Fin S4x1x1.rank)
  bcast_S96_S1x96x1_1 : S96.BroadcastsInDim S1x96x1 (![1] : Fin 1 → Fin S1x96x1.rank)
  bcast_S_S4x96x147456 : S_.BroadcastsInDim S4x96x147456 (![] : Fin 0 → Fin S4x96x147456.rank)
  bcast_S_S4x1x1 : S_.BroadcastsInDim S4x1x1 (![] : Fin 0 → Fin S4x1x1.rank)
  bcast_S_S1x96x1 : S_.BroadcastsInDim S1x96x1 (![] : Fin 0 → Fin S1x96x1.rank)
  bcast_S_S4x96x36864 : S_.BroadcastsInDim S4x96x36864 (![] : Fin 0 → Fin S4x96x36864.rank)
  bcast_S4x1x1_S4x96x36864_0_1_2 : S4x1x1.BroadcastsInDim S4x96x36864 (![0, 1, 2] : Fin 3 → Fin S4x96x36864.rank)
  bcast_S1x96x1_S4x96x36864_0_1_2 : S1x96x1.BroadcastsInDim S4x96x36864 (![0, 1, 2] : Fin 3 → Fin S4x96x36864.rank)
  bcast_S4x96x36864_S4x96x36864x1_0_1_2 : S4x96x36864.BroadcastsInDim S4x96x36864x1 (![0, 1, 2] : Fin 3 → Fin S4x96x36864x1.rank)
  concatenates_S4x96x36864x1_S4x96x36864x1_S4x96x36864x1_S4x96x36864x3_d3 : Shape.Concatenates [S4x96x36864x1, S4x96x36864x1, S4x96x36864x1] S4x96x36864x3 3
  shapeCasts_S4x96x147456_S4x96x384x384 : S4x96x147456.ShapeCasts S4x96x384x384
  shapeCasts_S4x96x384x384_S4x96x147456 : S4x96x384x384.ShapeCasts S4x96x147456
  natLt_1_32 : 1 < 32
  scatter_S4x96x147456_S4x96x36864x3_S4x96x36864_n_012_012_3_wf : ScatterDims.WF S4x96x147456 S4x96x36864x3 S4x96x36864 [] [0, 1, 2] [0, 1, 2] 3
  gather_S4x96x147456_S4x96x36864x3_S4x96x36864_n_012_n_n_012_3_111_wf : GatherDims.WF S4x96x147456 S4x96x36864x3 S4x96x36864 [] [0, 1, 2] [] [0, 1, 2] [] 3 ![1, 1, 1]

variable [Facts]

def scatter_S4x96x147456_S4x96x36864x3_S4x96x36864_n_012_012_3 : ScatterDims S4x96x147456 S4x96x36864x3 S4x96x36864 where
  updateWindowDims := []
  insertedWindowDims := [0, 1, 2]
  scatterDimsToOperandDims := [0, 1, 2]
  indexVectorDim := 3
  wf := scatter_S4x96x147456_S4x96x36864x3_S4x96x36864_n_012_012_3_wf
def gather_S4x96x147456_S4x96x36864x3_S4x96x36864_n_012_n_n_012_3_111 : GatherDims S4x96x147456 S4x96x36864x3 S4x96x36864 where
  offsetDims := []
  collapsedSliceDims := [0, 1, 2]
  operandBatchingDims := []
  startIndicesBatchingDims := []
  startIndexMap := [0, 1, 2]
  indexVectorDim := 3
  sliceSizes := ![1, 1, 1]
  wf := gather_S4x96x147456_S4x96x36864x3_S4x96x36864_n_012_n_n_012_3_111_wf
def fn_part4 {F : FTy → Type} [FloatOps F] (main_v64 : IVec S4x96x147456 32) (main_v65 : IVec S4x96x36864 32) (main_v66 : IVec S4x96x36864 32) (main_v71 : IVec S4x1x1 32) (main_v76 : IVec S1x96x1 32) (main_c_16 : IVec S_ 32) : IVec S4x96x384x384 1 :=
  let main_v77 : IVec S4x96x36864 32 := broadcastInDim S4x96x36864 ![] bcast_S_S4x96x36864 main_c_16
  let main_v78 : IVec S4x96x36864 1 := cmpi .slt main_v65 main_v77
  let main_c_17 : IVec S_ 32 := constantI S_ 32 147456#32
  let main_v79 : IVec S4x96x36864 32 := broadcastInDim S4x96x36864 ![] bcast_S_S4x96x36864 main_c_17
  let main_v80 : IVec S4x96x36864 32 := addi main_v65 main_v79
  let main_v81 : IVec S4x96x36864 32 := select main_v78 main_v80 main_v65
  let main_v82 : IVec S4x96x36864 32 := broadcastInDim S4x96x36864 ![0, 1, 2] bcast_S4x1x1_S4x96x36864_0_1_2 main_v71
  let main_v83 : IVec S4x96x36864 32 := broadcastInDim S4x96x36864 ![0, 1, 2] bcast_S1x96x1_S4x96x36864_0_1_2 main_v76
  let main_v84 : IVec S4x96x36864x1 32 := broadcastInDim S4x96x36864x1 ![0, 1, 2] bcast_S4x96x36864_S4x96x36864x1_0_1_2 main_v82
  let main_v85 : IVec S4x96x36864x1 32 := broadcastInDim S4x96x36864x1 ![0, 1, 2] bcast_S4x96x36864_S4x96x36864x1_0_1_2 main_v83
  let main_v86 : IVec S4x96x36864x1 32 := broadcastInDim S4x96x36864x1 ![0, 1, 2] bcast_S4x96x36864_S4x96x36864x1_0_1_2 main_v81
  let main_v87 : IVec S4x96x36864x3 32 := concatenate S4x96x36864x3 3 [⟨S4x96x36864x1, main_v84⟩, ⟨S4x96x36864x1, main_v85⟩, ⟨S4x96x36864x1, main_v86⟩] concatenates_S4x96x36864x1_S4x96x36864x1_S4x96x36864x1_S4x96x36864x3_d3
  let main_v88 : IVec S4x96x147456 32 := (fun x i u => Host.scatter scatter_S4x96x147456_S4x96x36864x3_S4x96x36864_n_012_012_3 IntOp.addi x i u) main_v64 main_v87 main_v66
  let main_c_18 : IVec S_ 32 := constantI S_ 32 0#32
  let main_v89 : IVec S4x96x147456 32 := broadcastInDim S4x96x147456 ![] bcast_S_S4x96x147456 main_c_18
  let main_v90 : IVec S4x96x147456 1 := cmpi .eq main_v88 main_v89
  let main_v91 : IVec S4x96x384x384 1 := shapeCast S4x96x384x384 main_v90 shapeCasts_S4x96x147456_S4x96x384x384
  main_v91

def fn_part3 {F : FTy → Type} [FloatOps F] (main_arg1 : IVec S4x96x192x192 32) (main_v57 : FVec F S4x96x36864 .f32) (main_v58 : FVec F S4x96x36864 .f32) : IVec S4x96x384x384 1 :=
  let main_v59 : IVec S4x96x36864 1 := cmpf .une main_v57 main_v58
  let main_v60 : IVec S4 32 := iotaInDim S4 32 0
  let main_v61 : IVec S4x1x1 32 := broadcastInDim S4x1x1 ![0] bcast_S4_S4x1x1_0 main_v60
  let main_v62 : IVec S96 32 := iotaInDim S96 32 0
  let main_v63 : IVec S1x96x1 32 := broadcastInDim S1x96x1 ![1] bcast_S96_S1x96x1_1 main_v62
  let main_c_11 : IVec S_ 32 := constantI S_ 32 0#32
  let main_v64 : IVec S4x96x147456 32 := broadcastInDim S4x96x147456 ![] bcast_S_S4x96x147456 main_c_11
  let main_v65 : IVec S4x96x36864 32 := shapeCast S4x96x36864 main_arg1 shapeCasts_S4x96x192x192_S4x96x36864
  let main_v66 : IVec S4x96x36864 32 := (extui 32 · natLt_1_32) main_v59
  let main_c_12 : IVec S_ 32 := constantI S_ 32 0#32
  let main_v67 : IVec S4x1x1 32 := broadcastInDim S4x1x1 ![] bcast_S_S4x1x1 main_c_12
  let main_v68 : IVec S4x1x1 1 := cmpi .slt main_v61 main_v67
  let main_c_13 : IVec S_ 32 := constantI S_ 32 4#32
  let main_v69 : IVec S4x1x1 32 := broadcastInDim S4x1x1 ![] bcast_S_S4x1x1 main_c_13
  let main_v70 : IVec S4x1x1 32 := addi main_v61 main_v69
  let main_v71 : IVec S4x1x1 32 := select main_v68 main_v70 main_v61
  let main_c_14 : IVec S_ 32 := constantI S_ 32 0#32
  let main_v72 : IVec S1x96x1 32 := broadcastInDim S1x96x1 ![] bcast_S_S1x96x1 main_c_14
  let main_v73 : IVec S1x96x1 1 := cmpi .slt main_v63 main_v72
  let main_c_15 : IVec S_ 32 := constantI S_ 32 96#32
  let main_v74 : IVec S1x96x1 32 := broadcastInDim S1x96x1 ![] bcast_S_S1x96x1 main_c_15
  let main_v75 : IVec S1x96x1 32 := addi main_v63 main_v74
  let main_v76 : IVec S1x96x1 32 := select main_v73 main_v75 main_v63
  let main_c_16 : IVec S_ 32 := constantI S_ 32 0#32
  fn_part4 (F := F) main_v64 main_v65 main_v66 main_v71 main_v76 main_c_16

def fn_part2 {F : FTy → Type} [FloatOps F] (main_arg0 : FVec F S4x96x192x192 .f32) (main_arg1 : IVec S4x96x192x192 32) (main_v31 : IVec S4x1x1 32) (main_v33 : IVec S1x96x1 32) (main_v34 : FVec F S4x96x147456 .f32) (main_v35 : IVec S4x96x36864 32) (main_v37 : IVec S4x1x1 1) (main_v38 : IVec S4x1x1 32) : IVec S4x96x384x384 1 :=
  let main_v39 : IVec S4x1x1 32 := addi main_v31 main_v38
  let main_v40 : IVec S4x1x1 32 := select main_v37 main_v39 main_v31
  let main_c_7 : IVec S_ 32 := constantI S_ 32 0#32
  let main_v41 : IVec S1x96x1 32 := broadcastInDim S1x96x1 ![] bcast_S_S1x96x1 main_c_7
  let main_v42 : IVec S1x96x1 1 := cmpi .slt main_v33 main_v41
  let main_c_8 : IVec S_ 32 := constantI S_ 32 96#32
  let main_v43 : IVec S1x96x1 32 := broadcastInDim S1x96x1 ![] bcast_S_S1x96x1 main_c_8
  let main_v44 : IVec S1x96x1 32 := addi main_v33 main_v43
  let main_v45 : IVec S1x96x1 32 := select main_v42 main_v44 main_v33
  let main_c_9 : IVec S_ 32 := constantI S_ 32 0#32
  let main_v46 : IVec S4x96x36864 32 := broadcastInDim S4x96x36864 ![] bcast_S_S4x96x36864 main_c_9
  let main_v47 : IVec S4x96x36864 1 := cmpi .slt main_v35 main_v46
  let main_c_10 : IVec S_ 32 := constantI S_ 32 147456#32
  let main_v48 : IVec S4x96x36864 32 := broadcastInDim S4x96x36864 ![] bcast_S_S4x96x36864 main_c_10
  let main_v49 : IVec S4x96x36864 32 := addi main_v35 main_v48
  let main_v50 : IVec S4x96x36864 32 := select main_v47 main_v49 main_v35
  let main_v51 : IVec S4x96x36864 32 := broadcastInDim S4x96x36864 ![0, 1, 2] bcast_S4x1x1_S4x96x36864_0_1_2 main_v40
  let main_v52 : IVec S4x96x36864 32 := broadcastInDim S4x96x36864 ![0, 1, 2] bcast_S1x96x1_S4x96x36864_0_1_2 main_v45
  let main_v53 : IVec S4x96x36864x1 32 := broadcastInDim S4x96x36864x1 ![0, 1, 2] bcast_S4x96x36864_S4x96x36864x1_0_1_2 main_v51
  let main_v54 : IVec S4x96x36864x1 32 := broadcastInDim S4x96x36864x1 ![0, 1, 2] bcast_S4x96x36864_S4x96x36864x1_0_1_2 main_v52
  let main_v55 : IVec S4x96x36864x1 32 := broadcastInDim S4x96x36864x1 ![0, 1, 2] bcast_S4x96x36864_S4x96x36864x1_0_1_2 main_v50
  let main_v56 : IVec S4x96x36864x3 32 := concatenate S4x96x36864x3 3 [⟨S4x96x36864x1, main_v53⟩, ⟨S4x96x36864x1, main_v54⟩, ⟨S4x96x36864x1, main_v55⟩] concatenates_S4x96x36864x1_S4x96x36864x1_S4x96x36864x1_S4x96x36864x3_d3
  let main_v57 : FVec F S4x96x36864 .f32 := (fun x i => Host.gather gather_S4x96x147456_S4x96x36864x3_S4x96x36864_n_012_n_n_012_3_111 x i) main_v34 main_v56
  let main_v58 : FVec F S4x96x36864 .f32 := shapeCast S4x96x36864 main_arg0 shapeCasts_S4x96x192x192_S4x96x36864
  fn_part3 (F := F) main_arg1 main_v57 main_v58

def fn_part1 {F : FTy → Type} [FloatOps F] (main_arg0 : FVec F S4x96x192x192 .f32) (main_arg1 : IVec S4x96x192x192 32) (main_v0 : FVec F S4x96x36864 .f32) (main_v1 : IVec S4x96x36864 32) (main_v6 : FVec F S4x96x147456 .f32) (main_v11 : IVec S4x1x1 32) (main_v16 : IVec S1x96x1 32) (main_v17 : IVec S4x96x36864 32) : IVec S4x96x384x384 1 :=
  let main_v18 : IVec S4x96x36864 1 := cmpi .slt main_v1 main_v17
  let main_c_4 : IVec S_ 32 := constantI S_ 32 147456#32
  let main_v19 : IVec S4x96x36864 32 := broadcastInDim S4x96x36864 ![] bcast_S_S4x96x36864 main_c_4
  let main_v20 : IVec S4x96x36864 32 := addi main_v1 main_v19
  let main_v21 : IVec S4x96x36864 32 := select main_v18 main_v20 main_v1
  let main_v22 : IVec S4x96x36864 32 := broadcastInDim S4x96x36864 ![0, 1, 2] bcast_S4x1x1_S4x96x36864_0_1_2 main_v11
  let main_v23 : IVec S4x96x36864 32 := broadcastInDim S4x96x36864 ![0, 1, 2] bcast_S1x96x1_S4x96x36864_0_1_2 main_v16
  let main_v24 : IVec S4x96x36864x1 32 := broadcastInDim S4x96x36864x1 ![0, 1, 2] bcast_S4x96x36864_S4x96x36864x1_0_1_2 main_v22
  let main_v25 : IVec S4x96x36864x1 32 := broadcastInDim S4x96x36864x1 ![0, 1, 2] bcast_S4x96x36864_S4x96x36864x1_0_1_2 main_v23
  let main_v26 : IVec S4x96x36864x1 32 := broadcastInDim S4x96x36864x1 ![0, 1, 2] bcast_S4x96x36864_S4x96x36864x1_0_1_2 main_v21
  let main_v27 : IVec S4x96x36864x3 32 := concatenate S4x96x36864x3 3 [⟨S4x96x36864x1, main_v24⟩, ⟨S4x96x36864x1, main_v25⟩, ⟨S4x96x36864x1, main_v26⟩] concatenates_S4x96x36864x1_S4x96x36864x1_S4x96x36864x1_S4x96x36864x3_d3
  let main_v28 : FVec F S4x96x147456 .f32 := (fun x i u => Host.scatter scatter_S4x96x147456_S4x96x36864x3_S4x96x36864_n_012_012_3 (fun _ b => b) x i u) main_v6 main_v27 main_v0
  let main_v29 : FVec F S4x96x384x384 .f32 := shapeCast S4x96x384x384 main_v28 shapeCasts_S4x96x147456_S4x96x384x384
  let main_v30 : IVec S4 32 := iotaInDim S4 32 0
  let main_v31 : IVec S4x1x1 32 := broadcastInDim S4x1x1 ![0] bcast_S4_S4x1x1_0 main_v30
  let main_v32 : IVec S96 32 := iotaInDim S96 32 0
  let main_v33 : IVec S1x96x1 32 := broadcastInDim S1x96x1 ![1] bcast_S96_S1x96x1_1 main_v32
  let main_v34 : FVec F S4x96x147456 .f32 := shapeCast S4x96x147456 main_v29 shapeCasts_S4x96x384x384_S4x96x147456
  let main_v35 : IVec S4x96x36864 32 := shapeCast S4x96x36864 main_arg1 shapeCasts_S4x96x192x192_S4x96x36864
  let main_c_5 : IVec S_ 32 := constantI S_ 32 0#32
  let main_v36 : IVec S4x1x1 32 := broadcastInDim S4x1x1 ![] bcast_S_S4x1x1 main_c_5
  let main_v37 : IVec S4x1x1 1 := cmpi .slt main_v31 main_v36
  let main_c_6 : IVec S_ 32 := constantI S_ 32 4#32
  let main_v38 : IVec S4x1x1 32 := broadcastInDim S4x1x1 ![] bcast_S_S4x1x1 main_c_6
  fn_part2 (F := F) main_arg0 main_arg1 main_v31 main_v33 main_v34 main_v35 main_v37 main_v38

def fn {F : FTy → Type} [FloatOps F] (main_arg0 : FVec F S4x96x192x192 .f32) (main_arg1 : IVec S4x96x192x192 32) : IVec S4x96x384x384 1 :=
  let main_v0 : FVec F S4x96x36864 .f32 := shapeCast S4x96x36864 main_arg0 shapeCasts_S4x96x192x192_S4x96x36864
  let main_v1 : IVec S4x96x36864 32 := shapeCast S4x96x36864 main_arg1 shapeCasts_S4x96x192x192_S4x96x36864
  let main_v2 : IVec S4 32 := iotaInDim S4 32 0
  let main_v3 : IVec S4x1x1 32 := broadcastInDim S4x1x1 ![0] bcast_S4_S4x1x1_0 main_v2
  let main_v4 : IVec S96 32 := iotaInDim S96 32 0
  let main_v5 : IVec S1x96x1 32 := broadcastInDim S1x96x1 ![1] bcast_S96_S1x96x1_1 main_v4
  let main_cst : FVec F S_ .f32 := constant S_ .f32 0x00000000#32
  let main_v6 : FVec F S4x96x147456 .f32 := broadcastInDim S4x96x147456 ![] bcast_S_S4x96x147456 main_cst
  let main_c : IVec S_ 32 := constantI S_ 32 0#32
  let main_v7 : IVec S4x1x1 32 := broadcastInDim S4x1x1 ![] bcast_S_S4x1x1 main_c
  let main_v8 : IVec S4x1x1 1 := cmpi .slt main_v3 main_v7
  let main_c_0 : IVec S_ 32 := constantI S_ 32 4#32
  let main_v9 : IVec S4x1x1 32 := broadcastInDim S4x1x1 ![] bcast_S_S4x1x1 main_c_0
  let main_v10 : IVec S4x1x1 32 := addi main_v3 main_v9
  let main_v11 : IVec S4x1x1 32 := select main_v8 main_v10 main_v3
  let main_c_1 : IVec S_ 32 := constantI S_ 32 0#32
  let main_v12 : IVec S1x96x1 32 := broadcastInDim S1x96x1 ![] bcast_S_S1x96x1 main_c_1
  let main_v13 : IVec S1x96x1 1 := cmpi .slt main_v5 main_v12
  let main_c_2 : IVec S_ 32 := constantI S_ 32 96#32
  let main_v14 : IVec S1x96x1 32 := broadcastInDim S1x96x1 ![] bcast_S_S1x96x1 main_c_2
  let main_v15 : IVec S1x96x1 32 := addi main_v5 main_v14
  let main_v16 : IVec S1x96x1 32 := select main_v13 main_v15 main_v5
  let main_c_3 : IVec S_ 32 := constantI S_ 32 0#32
  let main_v17 : IVec S4x96x36864 32 := broadcastInDim S4x96x36864 ![] bcast_S_S4x96x36864 main_c_3
  fn_part1 (F := F) main_arg0 main_arg1 main_v0 main_v1 main_v6 main_v11 main_v16 main_v17
-- ==== Post_one_of_those_sent.lean ====
abbrev S4x96x192x192 : Shape := ⟨4, ![4, 96, 192, 192]⟩
abbrev S4x96x384x384 : Shape := ⟨4, ![4, 96, 384, 384]⟩
abbrev S4x96x36864 : Shape := ⟨3, ![4, 96, 36864]⟩
abbrev S_ : Shape := ⟨0, ![]⟩
abbrev S4 : Shape := ⟨1, ![4]⟩
abbrev S4x1x1 : Shape := ⟨3, ![4, 1, 1]⟩
abbrev S96 : Shape := ⟨1, ![96]⟩
abbrev S1x96x1 : Shape := ⟨3, ![1, 96, 1]⟩
abbrev S4x96x147456 : Shape := ⟨3, ![4, 96, 147456]⟩
abbrev S4x96x36864x1 : Shape := ⟨4, ![4, 96, 36864, 1]⟩
abbrev S4x96x36864x3 : Shape := ⟨4, ![4, 96, 36864, 3]⟩

class Facts : Prop where
  shapeCasts_S4x96x192x192_S4x96x36864 : S4x96x192x192.ShapeCasts S4x96x36864
  bcast_S_S4x96x36864 : S_.BroadcastsInDim S4x96x36864 (![] : Fin 0 → Fin S4x96x36864.rank)
  bcast_S4_S4x1x1_0 : S4.BroadcastsInDim S4x1x1 (![0] : Fin 1 → Fin S4x1x1.rank)
  bcast_S96_S1x96x1_1 : S96.BroadcastsInDim S1x96x1 (![1] : Fin 1 → Fin S1x96x1.rank)
  bcast_S_S4x96x147456 : S_.BroadcastsInDim S4x96x147456 (![] : Fin 0 → Fin S4x96x147456.rank)
  natLt_1_32 : 1 < 32
  bcast_S_S4x1x1 : S_.BroadcastsInDim S4x1x1 (![] : Fin 0 → Fin S4x1x1.rank)
  bcast_S_S1x96x1 : S_.BroadcastsInDim S1x96x1 (![] : Fin 0 → Fin S1x96x1.rank)
  bcast_S4x1x1_S4x96x36864_0_1_2 : S4x1x1.BroadcastsInDim S4x96x36864 (![0, 1, 2] : Fin 3 → Fin S4x96x36864.rank)
  bcast_S1x96x1_S4x96x36864_0_1_2 : S1x96x1.BroadcastsInDim S4x96x36864 (![0, 1, 2] : Fin 3 → Fin S4x96x36864.rank)
  bcast_S4x96x36864_S4x96x36864x1_0_1_2 : S4x96x36864.BroadcastsInDim S4x96x36864x1 (![0, 1, 2] : Fin 3 → Fin S4x96x36864x1.rank)
  concatenates_S4x96x36864x1_S4x96x36864x1_S4x96x36864x1_S4x96x36864x3_d3 : Shape.Concatenates [S4x96x36864x1, S4x96x36864x1, S4x96x36864x1] S4x96x36864x3 3
  shapeCasts_S4x96x384x384_S4x96x147456 : S4x96x384x384.ShapeCasts S4x96x147456
  scatter_S4x96x147456_S4x96x36864x3_S4x96x36864_n_012_012_3_wf : ScatterDims.WF S4x96x147456 S4x96x36864x3 S4x96x36864 [] [0, 1, 2] [0, 1, 2] 3
  gather_S4x96x147456_S4x96x36864x3_S4x96x36864_n_012_n_n_012_3_111_wf : GatherDims.WF S4x96x147456 S4x96x36864x3 S4x96x36864 [] [0, 1, 2] [] [0, 1, 2] [] 3 ![1, 1, 1]

variable [Facts]

def scatter_S4x96x147456_S4x96x36864x3_S4x96x36864_n_012_012_3 : ScatterDims S4x96x147456 S4x96x36864x3 S4x96x36864 where
  updateWindowDims := []
  insertedWindowDims := [0, 1, 2]
  scatterDimsToOperandDims := [0, 1, 2]
  indexVectorDim := 3
  wf := scatter_S4x96x147456_S4x96x36864x3_S4x96x36864_n_012_012_3_wf
def gather_S4x96x147456_S4x96x36864x3_S4x96x36864_n_012_n_n_012_3_111 : GatherDims S4x96x147456 S4x96x36864x3 S4x96x36864 where
  offsetDims := []
  collapsedSliceDims := [0, 1, 2]
  operandBatchingDims := []
  startIndicesBatchingDims := []
  startIndexMap := [0, 1, 2]
  indexVectorDim := 3
  sliceSizes := ![1, 1, 1]
  wf := gather_S4x96x147456_S4x96x36864x3_S4x96x36864_n_012_n_n_012_3_111_wf
def fn_where {F : FTy → Type} [FloatOps F] (arg0 : IVec S4x96x147456 1) (arg1 : IVec S4x96x147456 1) (arg2 : IVec S4x96x147456 1) : IVec S4x96x147456 1 :=
  let v0 : IVec S4x96x147456 1 := select arg0 arg1 arg2
  v0

def fn_part5 {F : FTy → Type} [FloatOps F] (main_v90 : IVec S4x96x147456 1) (main_v93 : IVec S4x96x147456 1) (main_v95 : IVec S4x96x147456 1) : IVec S4x96x147456 1 :=
  let main_v96 : IVec S4x96x147456 1 := fn_where (F := F) main_v90 main_v93 main_v95
  main_v96

def fn_part4 {F : FTy → Type} [FloatOps F] (main_arg2 : FVec F S4x96x384x384 .f32) (main_v30 : IVec S4x96x147456 32) (main_v64 : IVec S4x96x147456 32) (main_v65 : IVec S4x96x36864 32) (main_v66 : IVec S4x96x36864 32) (main_v71 : IVec S4x1x1 32) (main_v76 : IVec S1x96x1 32) : IVec S4x96x147456 1 :=
  let main_c_18 : IVec S_ 32 := constantI S_ 32 0#32
  let main_v77 : IVec S4x96x36864 32 := broadcastInDim S4x96x36864 ![] bcast_S_S4x96x36864 main_c_18
  let main_v78 : IVec S4x96x36864 1 := cmpi .slt main_v65 main_v77
  let main_c_19 : IVec S_ 32 := constantI S_ 32 147456#32
  let main_v79 : IVec S4x96x36864 32 := broadcastInDim S4x96x36864 ![] bcast_S_S4x96x36864 main_c_19
  let main_v80 : IVec S4x96x36864 32 := addi main_v65 main_v79
  let main_v81 : IVec S4x96x36864 32 := select main_v78 main_v80 main_v65
  let main_v82 : IVec S4x96x36864 32 := broadcastInDim S4x96x36864 ![0, 1, 2] bcast_S4x1x1_S4x96x36864_0_1_2 main_v71
  let main_v83 : IVec S4x96x36864 32 := broadcastInDim S4x96x36864 ![0, 1, 2] bcast_S1x96x1_S4x96x36864_0_1_2 main_v76
  let main_v84 : IVec S4x96x36864x1 32 := broadcastInDim S4x96x36864x1 ![0, 1, 2] bcast_S4x96x36864_S4x96x36864x1_0_1_2 main_v82
  let main_v85 : IVec S4x96x36864x1 32 := broadcastInDim S4x96x36864x1 ![0, 1, 2] bcast_S4x96x36864_S4x96x36864x1_0_1_2 main_v83
  let main_v86 : IVec S4x96x36864x1 32 := broadcastInDim S4x96x36864x1 ![0, 1, 2] bcast_S4x96x36864_S4x96x36864x1_0_1_2 main_v81
  let main_v87 : IVec S4x96x36864x3 32 := concatenate S4x96x36864x3 3 [⟨S4x96x36864x1, main_v84⟩, ⟨S4x96x36864x1, main_v85⟩, ⟨S4x96x36864x1, main_v86⟩] concatenates_S4x96x36864x1_S4x96x36864x1_S4x96x36864x1_S4x96x36864x3_d3
  let main_v88 : IVec S4x96x147456 32 := (fun x i u => Host.scatter scatter_S4x96x147456_S4x96x36864x3_S4x96x36864_n_012_012_3 IntOp.addi x i u) main_v64 main_v87 main_v66
  let main_c_20 : IVec S_ 32 := constantI S_ 32 0#32
  let main_v89 : IVec S4x96x147456 32 := broadcastInDim S4x96x147456 ![] bcast_S_S4x96x147456 main_c_20
  let main_v90 : IVec S4x96x147456 1 := cmpi .eq main_v30 main_v89
  let main_v91 : FVec F S4x96x147456 .f32 := shapeCast S4x96x147456 main_arg2 shapeCasts_S4x96x384x384_S4x96x147456
  let main_cst : FVec F S_ .f32 := constant S_ .f32 0x00000000#32
  let main_v92 : FVec F S4x96x147456 .f32 := broadcastInDim S4x96x147456 ![] bcast_S_S4x96x147456 main_cst
  let main_v93 : IVec S4x96x147456 1 := cmpf .oeq main_v91 main_v92
  let main_c_21 : IVec S_ 32 := constantI S_ 32 0#32
  let main_v94 : IVec S4x96x147456 32 := broadcastInDim S4x96x147456 ![] bcast_S_S4x96x147456 main_c_21
  let main_v95 : IVec S4x96x147456 1 := cmpi .sgt main_v88 main_v94
  fn_part5 (F := F) main_v90 main_v93 main_v95

def fn_part3 {F : FTy → Type} [FloatOps F] (main_arg1 : IVec S4x96x192x192 32) (main_arg2 : FVec F S4x96x384x384 .f32) (main_v0 : FVec F S4x96x36864 .f32) (main_v30 : IVec S4x96x147456 32) (main_v35 : FVec F S4x96x147456 .f32) (main_v57 : IVec S4x96x36864x3 32) : IVec S4x96x147456 1 :=
  let main_v58 : FVec F S4x96x36864 .f32 := (fun x i => Host.gather gather_S4x96x147456_S4x96x36864x3_S4x96x36864_n_012_n_n_012_3_111 x i) main_v35 main_v57
  let main_v59 : IVec S4x96x36864 1 := cmpf .oeq main_v58 main_v0
  let main_v60 : IVec S4 32 := iotaInDim S4 32 0
  let main_v61 : IVec S4x1x1 32 := broadcastInDim S4x1x1 ![0] bcast_S4_S4x1x1_0 main_v60
  let main_v62 : IVec S96 32 := iotaInDim S96 32 0
  let main_v63 : IVec S1x96x1 32 := broadcastInDim S1x96x1 ![1] bcast_S96_S1x96x1_1 main_v62
  let main_c_13 : IVec S_ 32 := constantI S_ 32 0#32
  let main_v64 : IVec S4x96x147456 32 := broadcastInDim S4x96x147456 ![] bcast_S_S4x96x147456 main_c_13
  let main_v65 : IVec S4x96x36864 32 := shapeCast S4x96x36864 main_arg1 shapeCasts_S4x96x192x192_S4x96x36864
  let main_v66 : IVec S4x96x36864 32 := (extui 32 · natLt_1_32) main_v59
  let main_c_14 : IVec S_ 32 := constantI S_ 32 0#32
  let main_v67 : IVec S4x1x1 32 := broadcastInDim S4x1x1 ![] bcast_S_S4x1x1 main_c_14
  let main_v68 : IVec S4x1x1 1 := cmpi .slt main_v61 main_v67
  let main_c_15 : IVec S_ 32 := constantI S_ 32 4#32
  let main_v69 : IVec S4x1x1 32 := broadcastInDim S4x1x1 ![] bcast_S_S4x1x1 main_c_15
  let main_v70 : IVec S4x1x1 32 := addi main_v61 main_v69
  let main_v71 : IVec S4x1x1 32 := select main_v68 main_v70 main_v61
  let main_c_16 : IVec S_ 32 := constantI S_ 32 0#32
  let main_v72 : IVec S1x96x1 32 := broadcastInDim S1x96x1 ![] bcast_S_S1x96x1 main_c_16
  let main_v73 : IVec S1x96x1 1 := cmpi .slt main_v63 main_v72
  let main_c_17 : IVec S_ 32 := constantI S_ 32 96#32
  let main_v74 : IVec S1x96x1 32 := broadcastInDim S1x96x1 ![] bcast_S_S1x96x1 main_c_17
  let main_v75 : IVec S1x96x1 32 := addi main_v63 main_v74
  let main_v76 : IVec S1x96x1 32 := select main_v73 main_v75 main_v63
  fn_part4 (F := F) main_arg2 main_v30 main_v64 main_v65 main_v66 main_v71 main_v76

def fn_part2 {F : FTy → Type} [FloatOps F] (main_arg1 : IVec S4x96x192x192 32) (main_arg2 : FVec F S4x96x384x384 .f32) (main_v0 : FVec F S4x96x36864 .f32) (main_v30 : IVec S4x96x147456 32) (main_v32 : IVec S4x1x1 32) (main_v34 : IVec S1x96x1 32) (main_v35 : FVec F S4x96x147456 .f32) (main_v36 : IVec S4x96x36864 32) (main_v38 : IVec S4x1x1 1) : IVec S4x96x147456 1 :=
  let main_c_8 : IVec S_ 32 := constantI S_ 32 4#32
  let main_v39 : IVec S4x1x1 32 := broadcastInDim S4x1x1 ![] bcast_S_S4x1x1 main_c_8
  let main_v40 : IVec S4x1x1 32 := addi main_v32 main_v39
  let main_v41 : IVec S4x1x1 32 := select main_v38 main_v40 main_v32
  let main_c_9 : IVec S_ 32 := constantI S_ 32 0#32
  let main_v42 : IVec S1x96x1 32 := broadcastInDim S1x96x1 ![] bcast_S_S1x96x1 main_c_9
  let main_v43 : IVec S1x96x1 1 := cmpi .slt main_v34 main_v42
  let main_c_10 : IVec S_ 32 := constantI S_ 32 96#32
  let main_v44 : IVec S1x96x1 32 := broadcastInDim S1x96x1 ![] bcast_S_S1x96x1 main_c_10
  let main_v45 : IVec S1x96x1 32 := addi main_v34 main_v44
  let main_v46 : IVec S1x96x1 32 := select main_v43 main_v45 main_v34
  let main_c_11 : IVec S_ 32 := constantI S_ 32 0#32
  let main_v47 : IVec S4x96x36864 32 := broadcastInDim S4x96x36864 ![] bcast_S_S4x96x36864 main_c_11
  let main_v48 : IVec S4x96x36864 1 := cmpi .slt main_v36 main_v47
  let main_c_12 : IVec S_ 32 := constantI S_ 32 147456#32
  let main_v49 : IVec S4x96x36864 32 := broadcastInDim S4x96x36864 ![] bcast_S_S4x96x36864 main_c_12
  let main_v50 : IVec S4x96x36864 32 := addi main_v36 main_v49
  let main_v51 : IVec S4x96x36864 32 := select main_v48 main_v50 main_v36
  let main_v52 : IVec S4x96x36864 32 := broadcastInDim S4x96x36864 ![0, 1, 2] bcast_S4x1x1_S4x96x36864_0_1_2 main_v41
  let main_v53 : IVec S4x96x36864 32 := broadcastInDim S4x96x36864 ![0, 1, 2] bcast_S1x96x1_S4x96x36864_0_1_2 main_v46
  let main_v54 : IVec S4x96x36864x1 32 := broadcastInDim S4x96x36864x1 ![0, 1, 2] bcast_S4x96x36864_S4x96x36864x1_0_1_2 main_v52
  let main_v55 : IVec S4x96x36864x1 32 := broadcastInDim S4x96x36864x1 ![0, 1, 2] bcast_S4x96x36864_S4x96x36864x1_0_1_2 main_v53
  let main_v56 : IVec S4x96x36864x1 32 := broadcastInDim S4x96x36864x1 ![0, 1, 2] bcast_S4x96x36864_S4x96x36864x1_0_1_2 main_v51
  let main_v57 : IVec S4x96x36864x3 32 := concatenate S4x96x36864x3 3 [⟨S4x96x36864x1, main_v54⟩, ⟨S4x96x36864x1, main_v55⟩, ⟨S4x96x36864x1, main_v56⟩] concatenates_S4x96x36864x1_S4x96x36864x1_S4x96x36864x1_S4x96x36864x3_d3
  fn_part3 (F := F) main_arg1 main_arg2 main_v0 main_v30 main_v35 main_v57

def fn_part1 {F : FTy → Type} [FloatOps F] (main_arg1 : IVec S4x96x192x192 32) (main_arg2 : FVec F S4x96x384x384 .f32) (main_v0 : FVec F S4x96x36864 .f32) (main_v5 : IVec S1x96x1 32) (main_v6 : IVec S4x96x147456 32) (main_v7 : IVec S4x96x36864 32) (main_v8 : IVec S4x96x36864 32) (main_v13 : IVec S4x1x1 32) (main_v15 : IVec S1x96x1 1) (main_v17 : IVec S1x96x1 32) : IVec S4x96x147456 1 :=
  let main_v18 : IVec S1x96x1 32 := select main_v15 main_v17 main_v5
  let main_c_5 : IVec S_ 32 := constantI S_ 32 0#32
  let main_v19 : IVec S4x96x36864 32 := broadcastInDim S4x96x36864 ![] bcast_S_S4x96x36864 main_c_5
  let main_v20 : IVec S4x96x36864 1 := cmpi .slt main_v7 main_v19
  let main_c_6 : IVec S_ 32 := constantI S_ 32 147456#32
  let main_v21 : IVec S4x96x36864 32 := broadcastInDim S4x96x36864 ![] bcast_S_S4x96x36864 main_c_6
  let main_v22 : IVec S4x96x36864 32 := addi main_v7 main_v21
  let main_v23 : IVec S4x96x36864 32 := select main_v20 main_v22 main_v7
  let main_v24 : IVec S4x96x36864 32 := broadcastInDim S4x96x36864 ![0, 1, 2] bcast_S4x1x1_S4x96x36864_0_1_2 main_v13
  let main_v25 : IVec S4x96x36864 32 := broadcastInDim S4x96x36864 ![0, 1, 2] bcast_S1x96x1_S4x96x36864_0_1_2 main_v18
  let main_v26 : IVec S4x96x36864x1 32 := broadcastInDim S4x96x36864x1 ![0, 1, 2] bcast_S4x96x36864_S4x96x36864x1_0_1_2 main_v24
  let main_v27 : IVec S4x96x36864x1 32 := broadcastInDim S4x96x36864x1 ![0, 1, 2] bcast_S4x96x36864_S4x96x36864x1_0_1_2 main_v25
  let main_v28 : IVec S4x96x36864x1 32 := broadcastInDim S4x96x36864x1 ![0, 1, 2] bcast_S4x96x36864_S4x96x36864x1_0_1_2 main_v23
  let main_v29 : IVec S4x96x36864x3 32 := concatenate S4x96x36864x3 3 [⟨S4x96x36864x1, main_v26⟩, ⟨S4x96x36864x1, main_v27⟩, ⟨S4x96x36864x1, main_v28⟩] concatenates_S4x96x36864x1_S4x96x36864x1_S4x96x36864x1_S4x96x36864x3_d3
  let main_v30 : IVec S4x96x147456 32 := (fun x i u => Host.scatter scatter_S4x96x147456_S4x96x36864x3_S4x96x36864_n_012_012_3 IntOp.addi x i u) main_v6 main_v29 main_v8
  let main_v31 : IVec S4 32 := iotaInDim S4 32 0
  let main_v32 : IVec S4x1x1 32 := broadcastInDim S4x1x1 ![0] bcast_S4_S4x1x1_0 main_v31
  let main_v33 : IVec S96 32 := iotaInDim S96 32 0
  let main_v34 : IVec S1x96x1 32 := broadcastInDim S1x96x1 ![1] bcast_S96_S1x96x1_1 main_v33
  let main_v35 : FVec F S4x96x147456 .f32 := shapeCast S4x96x147456 main_arg2 shapeCasts_S4x96x384x384_S4x96x147456
  let main_v36 : IVec S4x96x36864 32 := shapeCast S4x96x36864 main_arg1 shapeCasts_S4x96x192x192_S4x96x36864
  let main_c_7 : IVec S_ 32 := constantI S_ 32 0#32
  let main_v37 : IVec S4x1x1 32 := broadcastInDim S4x1x1 ![] bcast_S_S4x1x1 main_c_7
  let main_v38 : IVec S4x1x1 1 := cmpi .slt main_v32 main_v37
  fn_part2 (F := F) main_arg1 main_arg2 main_v0 main_v30 main_v32 main_v34 main_v35 main_v36 main_v38

def fn {F : FTy → Type} [FloatOps F] (main_arg0 : FVec F S4x96x192x192 .f32) (main_arg1 : IVec S4x96x192x192 32) (main_arg2 : FVec F S4x96x384x384 .f32) : IVec S4x96x147456 1 :=
  let main_v0 : FVec F S4x96x36864 .f32 := shapeCast S4x96x36864 main_arg0 shapeCasts_S4x96x192x192_S4x96x36864
  let main_c : IVec S_ 1 := constantI S_ 1 1#1
  let main_v1 : IVec S4x96x36864 1 := broadcastInDim S4x96x36864 ![] bcast_S_S4x96x36864 main_c
  let main_v2 : IVec S4 32 := iotaInDim S4 32 0
  let main_v3 : IVec S4x1x1 32 := broadcastInDim S4x1x1 ![0] bcast_S4_S4x1x1_0 main_v2
  let main_v4 : IVec S96 32 := iotaInDim S96 32 0
  let main_v5 : IVec S1x96x1 32 := broadcastInDim S1x96x1 ![1] bcast_S96_S1x96x1_1 main_v4
  let main_c_0 : IVec S_ 32 := constantI S_ 32 0#32
  let main_v6 : IVec S4x96x147456 32 := broadcastInDim S4x96x147456 ![] bcast_S_S4x96x147456 main_c_0
  let main_v7 : IVec S4x96x36864 32 := shapeCast S4x96x36864 main_arg1 shapeCasts_S4x96x192x192_S4x96x36864
  let main_v8 : IVec S4x96x36864 32 := (extui 32 · natLt_1_32) main_v1
  let main_c_1 : IVec S_ 32 := constantI S_ 32 0#32
  let main_v9 : IVec S4x1x1 32 := broadcastInDim S4x1x1 ![] bcast_S_S4x1x1 main_c_1
  let main_v10 : IVec S4x1x1 1 := cmpi .slt main_v3 main_v9
  let main_c_2 : IVec S_ 32 := constantI S_ 32 4#32
  let main_v11 : IVec S4x1x1 32 := broadcastInDim S4x1x1 ![] bcast_S_S4x1x1 main_c_2
  let main_v12 : IVec S4x1x1 32 := addi main_v3 main_v11
  let main_v13 : IVec S4x1x1 32 := select main_v10 main_v12 main_v3
  let main_c_3 : IVec S_ 32 := constantI S_ 32 0#32
  let main_v14 : IVec S1x96x1 32 := broadcastInDim S1x96x1 ![] bcast_S_S1x96x1 main_c_3
  let main_v15 : IVec S1x96x1 1 := cmpi .slt main_v5 main_v14
  let main_c_4 : IVec S_ 32 := constantI S_ 32 96#32
  let main_v16 : IVec S1x96x1 32 := broadcastInDim S1x96x1 ![] bcast_S_S1x96x1 main_c_4
  let main_v17 : IVec S1x96x1 32 := addi main_v5 main_v16
  fn_part1 (F := F) main_arg1 main_arg2 main_v0 main_v5 main_v6 main_v7 main_v8 main_v13 main_v15 main_v17
-- ==== Pre_in_plane.lean ====
abbrev S4x96x192x192 : Shape := ⟨4, ![4, 96, 192, 192]⟩
abbrev S_ : Shape := ⟨0, ![]⟩

class Facts : Prop where
  bcast_S_S4x96x192x192 : S_.BroadcastsInDim S4x96x192x192 (![] : Fin 0 → Fin S4x96x192x192.rank)
  reducesTo_S4x96x192x192_S_d0_1_2_3 : S4x96x192x192.ReducesTo [0, 1, 2, 3] S_
  h_S_ : 0 < S_.numel

variable [Facts]

def fn {F : FTy → Type} [FloatOps F] (main_arg0 : FVec F S4x96x192x192 .f32) (main_arg1 : IVec S4x96x192x192 32) : IVec S_ 1 :=
  let main_c : IVec S_ 32 := constantI S_ 32 0#32
  let main_v0 : IVec S4x96x192x192 32 := broadcastInDim S4x96x192x192 ![] bcast_S_S4x96x192x192 main_c
  let main_v1 : IVec S4x96x192x192 1 := cmpi .sge main_arg1 main_v0
  let main_c_0 : IVec S_ 32 := constantI S_ 32 147456#32
  let main_v2 : IVec S4x96x192x192 32 := broadcastInDim S4x96x192x192 ![] bcast_S_S4x96x192x192 main_c_0
  let main_v3 : IVec S4x96x192x192 1 := cmpi .slt main_arg1 main_v2
  let main_v4 : IVec S4x96x192x192 1 := andi main_v1 main_v3
  let main_c_1 : IVec S_ 1 := constantI S_ 1 1#1
  let main_v5 : IVec S_ 1 := (fun x v => Host.reduce IntOp.andi x v reducesTo_S4x96x192x192_S_d0_1_2_3 h_S_) main_v4 main_c_1
  main_v5
-- ==== Kernel.lean ====
abbrev S4x96x192x192 : Shape := ⟨4, ![4, 96, 192, 192]⟩
abbrev S384 : Shape := ⟨1, ![384]⟩
abbrev S384x1 : Shape := ⟨2, ![384, 1]⟩
abbrev S_ : Shape := ⟨0, ![]⟩
abbrev S384x36864 : Shape := ⟨2, ![384, 36864]⟩
abbrev S14155776 : Shape := ⟨1, ![14155776]⟩
abbrev S384x147456 : Shape := ⟨2, ![384, 147456]⟩
abbrev S73728 : Shape := ⟨1, ![73728]⟩
abbrev S9232 : Shape := ⟨1, ![9232]⟩
abbrev S9216 : Shape := ⟨1, ![9216]⟩
abbrev S16 : Shape := ⟨1, ![16]⟩
abbrev S1x73728 : Shape := ⟨2, ![1, 73728]⟩
abbrev S4x96x384x384 : Shape := ⟨4, ![4, 96, 384, 384]⟩

abbrev nBuf : Table → Nat
  | .hbm => 16
  | .local .scVector .vmem => 3
  | _ => 0

abbrev bufTy : (tb : Table) → Fin (nBuf tb) → BufTy
  | .hbm, ⟨0, _⟩ => ⟨S4x96x192x192, .f32⟩
  | .hbm, ⟨1, _⟩ => ⟨S4x96x192x192, .i32⟩
  | .hbm, ⟨2, _⟩ => ⟨S384, .i32⟩
  | .hbm, ⟨3, _⟩ => ⟨S384x1, .i32⟩
  | .hbm, ⟨4, _⟩ => ⟨S_, .i32⟩
  | .hbm, ⟨5, _⟩ => ⟨S384x1, .i32⟩
  | .hbm, ⟨6, _⟩ => ⟨S384x1, .i32⟩
  | .hbm, ⟨7, _⟩ => ⟨S384x36864, .i32⟩
  | .hbm, ⟨8, _⟩ => ⟨S384x36864, .i32⟩
  | .hbm, ⟨9, _⟩ => ⟨S384x36864, .i32⟩
  | .hbm, ⟨10, _⟩ => ⟨S14155776, .i32⟩
  | .hbm, ⟨11, _⟩ => ⟨S14155776, .f32⟩
  | .hbm, ⟨12, _⟩ => ⟨S14155776, .i32⟩
  | .hbm, ⟨13, _⟩ => ⟨S14155776, .f32⟩
  | .hbm, ⟨14, _⟩ => ⟨S384x147456, .f32⟩
  | .hbm, ⟨15, _⟩ => ⟨S4x96x384x384, .f32⟩
  | .local .scVector .vmem, ⟨0, _⟩ => ⟨S73728, .f32⟩
  | .local .scVector .vmem, ⟨1, _⟩ => ⟨S9232, .i32⟩
  | .local .scVector .vmem, ⟨2, _⟩ => ⟨S9216, .f32⟩
  | _, _ => ⟨S4x96x192x192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v9_0_scv : Ref sig .scVector := ⟨.hbm, 12, rfl⟩
abbrev main_v9_1_scv : Ref sig .scVector := ⟨.hbm, 13, rfl⟩
abbrev main_v10_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c24_i32 : BitVec 32 := 24#32
  let v2 : BitVec 32 := Scalar.addi c0_i32_0 c24_i32
  let c1_i32 : BitVec 32 := 1#32
  ⟨c0_i32_0, v2, c1_i32⟩
@[reducible] def k0_t2_loop : Scf.Loop 32 :=
  let c0_i32_17 : BitVec 32 := 0#32
  let c4608_i32 : BitVec 32 := 4608#32
  let v35 : BitVec 32 := Scalar.addi c0_i32_17 c4608_i32
  let c1_i32_18 : BitVec 32 := 1#32
  ⟨c0_i32_17, v35, c1_i32_18⟩
def k0_off1 (k0_t2 : Fin k0_t2_loop.trips) : Fin 1 → Nat :=
  let c0_i32_17 : BitVec 32 := 0#32
  let c1_i32_18 : BitVec 32 := 1#32
  let arg9 : BitVec 32 := Scf.iv c0_i32_17 c1_i32_18 k0_t2
  let c16_i32 : BitVec 32 := 16#32
  let v39 : BitVec 32 := Scalar.muli arg9 c16_i32
  let v40 : Index := Scalar.indexCast v39
  ![v40.toNat]
@[reducible] def k0_t3_loop : Scf.Loop 32 :=
  let c0_i32_21 : BitVec 32 := 0#32
  let c4_i32 : BitVec 32 := 4#32
  let v36 : BitVec 32 := Scalar.addi c0_i32_21 c4_i32
  let c1_i32_22 : BitVec 32 := 1#32
  ⟨c0_i32_21, v36, c1_i32_22⟩
def k0_cond1 (i : grid0.Coords) (k0_t1 : Fin k0_t1_loop.trips) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c36864_i32 : BitVec 32 := 36864#32
  let v38 : BitVec 32 := Scalar.muli v21 c36864_i32
  let c0_i32_21 : BitVec 32 := 0#32
  let c1_i32_22 : BitVec 32 := 1#32
  let arg9 : BitVec 32 := Scf.iv c0_i32_21 c1_i32_22 k0_t3
  let c9216_i32 : BitVec 32 := 9216#32
  let v39 : BitVec 32 := Scalar.muli arg9 c9216_i32
  let v40 : BitVec 32 := Scalar.addi v38 v39
  let c9216_i32_25 : BitVec 32 := 9216#32
  let v41 : BitVec 32 := Scalar.addi v40 c9216_i32_25
  let c14155776_i32 : BitVec 32 := 14155776#32
  let v42 : BitVec 1 := Scalar.cmpi .sge v41 c14155776_i32
  let v43 : BitVec 32 := Scalar.extui v42
  let c0_i32_26 : BitVec 32 := 0#32
  let v44 : BitVec 1 := Scalar.cmpi .ne v43 c0_i32_26
  v44

def k0_off2 (i : grid0.Coords) (k0_t1 : Fin k0_t1_loop.trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c36864_i32 : BitVec 32 := 36864#32
  let v38 : BitVec 32 := Scalar.muli v21 c36864_i32
  let c0_i32_21 : BitVec 32 := 0#32
  let c1_i32_22 : BitVec 32 := 1#32
  let arg9 : BitVec 32 := Scf.iv c0_i32_21 c1_i32_22 k0_t3
  let c9216_i32 : BitVec 32 := 9216#32
  let v39 : BitVec 32 := Scalar.muli arg9 c9216_i32
  let v40 : BitVec 32 := Scalar.addi v38 v39
  ![v40.toNat]
def k0_cond2 (i : grid0.Coords) (k0_t1 : Fin k0_t1_loop.trips) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c36864_i32 : BitVec 32 := 36864#32
  let v38 : BitVec 32 := Scalar.muli v21 c36864_i32
  let c0_i32_21 : BitVec 32 := 0#32
  let c1_i32_22 : BitVec 32 := 1#32
  let arg9 : BitVec 32 := Scf.iv c0_i32_21 c1_i32_22 k0_t3
  let c9216_i32 : BitVec 32 := 9216#32
  let v39 : BitVec 32 := Scalar.muli arg9 c9216_i32
  let v40 : BitVec 32 := Scalar.addi v38 v39
  let c9216_i32_25 : BitVec 32 := 9216#32
  let v41 : BitVec 32 := Scalar.addi v40 c9216_i32_25
  let c14155776_i32 : BitVec 32 := 14155776#32
  let v42 : BitVec 1 := Scalar.cmpi .sge v41 c14155776_i32
  let v_true : BitVec 1 := 1#1
  let v45 : BitVec 1 := Scalar.xori v42 v_true
  let v46 : BitVec 32 := Scalar.extui v45
  let c0_i32_27 : BitVec 32 := 0#32
  let v47 : BitVec 1 := Scalar.cmpi .ne v46 c0_i32_27
  v47

def k0_off3 (i : grid0.Coords) (k0_t1 : Fin k0_t1_loop.trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c36864_i32 : BitVec 32 := 36864#32
  let v38 : BitVec 32 := Scalar.muli v21 c36864_i32
  let c0_i32_21 : BitVec 32 := 0#32
  let c1_i32_22 : BitVec 32 := 1#32
  let arg9 : BitVec 32 := Scf.iv c0_i32_21 c1_i32_22 k0_t3
  let c9216_i32 : BitVec 32 := 9216#32
  let v39 : BitVec 32 := Scalar.muli arg9 c9216_i32
  let v40 : BitVec 32 := Scalar.addi v38 v39
  ![v40.toNat]
def k0_off4 (i : grid0.Coords) (k0_t1 : Fin k0_t1_loop.trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c36864_i32 : BitVec 32 := 36864#32
  let v38 : BitVec 32 := Scalar.muli v21 c36864_i32
  let c0_i32_21 : BitVec 32 := 0#32
  let c1_i32_22 : BitVec 32 := 1#32
  let arg9 : BitVec 32 := Scf.iv c0_i32_21 c1_i32_22 k0_t3
  let c9216_i32 : BitVec 32 := 9216#32
  let v39 : BitVec 32 := Scalar.muli arg9 c9216_i32
  let v40 : BitVec 32 := Scalar.addi v38 v39
  ![v40.toNat]
@[reducible] def k0_t4_loop : Scf.Loop 32 :=
  let c0_i32_34 : BitVec 32 := 0#32
  let c16_i32 : BitVec 32 := 16#32
  let v68 : BitVec 32 := Scalar.addi c0_i32_34 c16_i32
  let c1_i32_35 : BitVec 32 := 1#32
  ⟨c0_i32_34, v68, c1_i32_35⟩
def k0_off5 (k0_t4 : Fin k0_t4_loop.trips) : Fin 1 → Nat :=
  let c0_i32_34 : BitVec 32 := 0#32
  let c1_i32_35 : BitVec 32 := 1#32
  let arg10 : BitVec 32 := Scf.iv c0_i32_34 c1_i32_35 k0_t4
  let c36_i32 : BitVec 32 := 36#32
  let v69 : BitVec 32 := Scalar.muli arg10 c36_i32
  let c16_i32_37 : BitVec 32 := 16#32
  let v70 : BitVec 32 := Scalar.muli v69 c16_i32_37
  let v71 : Index := Scalar.indexCast v70
  ![v71.toNat]
def k0_off6 (k0_t4 : Fin k0_t4_loop.trips) : Fin 1 → Nat :=
  let c0_i32_34 : BitVec 32 := 0#32
  let c1_i32_35 : BitVec 32 := 1#32
  let arg10 : BitVec 32 := Scf.iv c0_i32_34 c1_i32_35 k0_t4
  let c1_i32_40 : BitVec 32 := 1#32
  let v79 : BitVec 32 := Scalar.addi arg10 c1_i32_40
  let c36_i32_41 : BitVec 32 := 36#32
  let v80 : BitVec 32 := Scalar.muli v79 c36_i32_41
  let c16_i32_42 : BitVec 32 := 16#32
  let v81 : BitVec 32 := Scalar.muli v80 c16_i32_42
  let c16_i32_43 : BitVec 32 := 16#32
  let v82 : BitVec 32 := Scalar.subi v81 c16_i32_43
  let v83 : Index := Scalar.indexCast v82
  ![v83.toNat]
@[reducible] def k0_t5_loop (k0_t4 : Fin k0_t4_loop.trips) : Scf.Loop 32 :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_49 : BitVec 32 := 1#32
  let v98 : BitVec 32 := Scalar.addi arg10 c1_i32_49
  let c36_i32_50 : BitVec 32 := 36#32
  let v99 : BitVec 32 := Scalar.muli v98 c36_i32_50
  let v100 : BitVec 32 := Scalar.subi v99 v97
  let c1_i32_52 : BitVec 32 := 1#32
  let v102 : BitVec 32 := Scalar.divsi v100 c1_i32_52
  let v103 : BitVec 32 := Scalar.muli v102 c1_i32_52
  let v104 : BitVec 32 := Scalar.addi v97 v103
  let c1_i32_53 : BitVec 32 := 1#32
  ⟨v97, v104, c1_i32_53⟩
def k0_off7 (k0_t4 : Fin k0_t4_loop.trips) (k0_t5 : Fin (k0_t5_loop k0_t4).trips) : Fin 1 → Nat :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_53 : BitVec 32 := 1#32
  let arg11 : BitVec 32 := Scf.iv v97 c1_i32_53 k0_t5
  let c16_i32_55 : BitVec 32 := 16#32
  let v105 : BitVec 32 := Scalar.muli arg11 c16_i32_55
  let v106 : Index := Scalar.indexCast v105
  ![v106.toNat]
def k0_off8 (k0_t4 : Fin k0_t4_loop.trips) (k0_t5 : Fin (k0_t5_loop k0_t4).trips) : Fin 1 → Nat :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_53 : BitVec 32 := 1#32
  let arg11 : BitVec 32 := Scf.iv v97 c1_i32_53 k0_t5
  let c16_i32_56 : BitVec 32 := 16#32
  let v108 : BitVec 32 := Scalar.muli arg11 c16_i32_56
  let c1_i32_57 : BitVec 32 := 1#32
  let v109 : BitVec 32 := Scalar.addi v108 c1_i32_57
  let v110 : Index := Scalar.indexCast v109
  ![v110.toNat]
def k0_off9 (k0_t4 : Fin k0_t4_loop.trips) (k0_t5 : Fin (k0_t5_loop k0_t4).trips) : Fin 1 → Nat :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_53 : BitVec 32 := 1#32
  let arg11 : BitVec 32 := Scf.iv v97 c1_i32_53 k0_t5
  let c16_i32_58 : BitVec 32 := 16#32
  let v112 : BitVec 32 := Scalar.muli arg11 c16_i32_58
  let v113 : Index := Scalar.indexCast v112
  ![v113.toNat]
def k0_cond3 (i : grid0.Coords) (k0_t1 : Fin k0_t1_loop.trips) (v54 : BitVec 32) (v61 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c147456_i32 : BitVec 32 := 147456#32
  let v32 : BitVec 32 := Scalar.muli v21 c147456_i32
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v4 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c73728_i32 : BitVec 32 := 73728#32
  let v33 : BitVec 32 := Scalar.muli v31 c73728_i32
  let v34 : BitVec 32 := Scalar.addi v32 v33
  let v62 : BitVec 1 := Scalar.cmpi .sge v61 v34
  let c73728_i32_31 : BitVec 32 := 73728#32
  let v63 : BitVec 32 := Scalar.addi v34 c73728_i32_31
  let v64 : BitVec 1 := Scalar.cmpi .slt v54 v63
  let v65 : BitVec 1 := Scalar.andi v62 v64
  let v66 : BitVec 32 := Scalar.extui v65
  let c0_i32_32 : BitVec 32 := 0#32
  let v67 : BitVec 1 := Scalar.cmpi .ne v66 c0_i32_32
  v67

def k0_cond4 (i : grid0.Coords) (k0_t1 : Fin k0_t1_loop.trips) (v78 : BitVec 32) (v90 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c147456_i32 : BitVec 32 := 147456#32
  let v32 : BitVec 32 := Scalar.muli v21 c147456_i32
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v4 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c73728_i32 : BitVec 32 := 73728#32
  let v33 : BitVec 32 := Scalar.muli v31 c73728_i32
  let v34 : BitVec 32 := Scalar.addi v32 v33
  let v91 : BitVec 1 := Scalar.cmpi .sge v90 v34
  let c73728_i32_46 : BitVec 32 := 73728#32
  let v92 : BitVec 32 := Scalar.addi v34 c73728_i32_46
  let v93 : BitVec 1 := Scalar.cmpi .slt v78 v92
  let v94 : BitVec 1 := Scalar.andi v91 v93
  let v95 : BitVec 32 := Scalar.extui v94
  let c0_i32_47 : BitVec 32 := 0#32
  let v96 : BitVec 1 := Scalar.cmpi .ne v95 c0_i32_47
  v96

def k0_chk1 (i : grid0.Coords) (k0_t1 : Fin k0_t1_loop.trips) (v54 : BitVec 32) (v61 : BitVec 32) (v78 : BitVec 32) (v90 : BitVec 32) (v125 : IVec S16 32) : Prop :=
  (∀ (k0_h3 : k0_cond3 i k0_t1 v54 v61 = 1#1), ∀ (k0_h4 : k0_cond4 i k0_t1 v78 v90 = 1#1), ∀ a x, ((![v125] : Fin 1 → IVec S16 32) a x).toNat < S73728.size a)
theorem k0_idx1_inb : ∀ (i : grid0.Coords) (k0_t1 : Fin k0_t1_loop.trips) (v54 : BitVec 32) (v61 : BitVec 32) (v78 : BitVec 32) (v90 : BitVec 32) (v125 : IVec S16 32) (k0_hw1 : k0_chk1 i k0_t1 v54 v61 v78 v90 v125), ∀ (k0_h3 : k0_cond3 i k0_t1 v54 v61 = 1#1), ∀ (k0_h4 : k0_cond4 i k0_t1 v78 v90 = 1#1), ∀ a x, ((![v125] : Fin 1 → IVec S16 32) a x).toNat < S73728.size a := fun i k0_t1 v54 v61 v78 v90 v125 k0_hw1 k0_h3 k0_h4 => k0_hw1 k0_h3 k0_h4
@[reducible] def k0_t6_loop (k0_t4 : Fin k0_t4_loop.trips) : Scf.Loop 32 :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_49 : BitVec 32 := 1#32
  let v98 : BitVec 32 := Scalar.addi arg10 c1_i32_49
  let c36_i32_50 : BitVec 32 := 36#32
  let v99 : BitVec 32 := Scalar.muli v98 c36_i32_50
  let v100 : BitVec 32 := Scalar.subi v99 v97
  let c1_i32_52 : BitVec 32 := 1#32
  let v102 : BitVec 32 := Scalar.divsi v100 c1_i32_52
  let v103 : BitVec 32 := Scalar.muli v102 c1_i32_52
  let v104 : BitVec 32 := Scalar.addi v97 v103
  let v101 : BitVec 32 := Scalar.addi v97 v100
  let c1_i32_54 : BitVec 32 := 1#32
  ⟨v104, v101, c1_i32_54⟩
def k0_off10 (k0_t4 : Fin k0_t4_loop.trips) (k0_t6 : Fin (k0_t6_loop k0_t4).trips) : Fin 1 → Nat :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_49 : BitVec 32 := 1#32
  let v98 : BitVec 32 := Scalar.addi arg10 c1_i32_49
  let c36_i32_50 : BitVec 32 := 36#32
  let v99 : BitVec 32 := Scalar.muli v98 c36_i32_50
  let v100 : BitVec 32 := Scalar.subi v99 v97
  let c1_i32_52 : BitVec 32 := 1#32
  let v102 : BitVec 32 := Scalar.divsi v100 c1_i32_52
  let v103 : BitVec 32 := Scalar.muli v102 c1_i32_52
  let v104 : BitVec 32 := Scalar.addi v97 v103
  let c1_i32_54 : BitVec 32 := 1#32
  let arg11 : BitVec 32 := Scf.iv v104 c1_i32_54 k0_t6
  let c16_i32_55 : BitVec 32 := 16#32
  let v105 : BitVec 32 := Scalar.muli arg11 c16_i32_55
  let v106 : Index := Scalar.indexCast v105
  ![v106.toNat]
def k0_off11 (k0_t4 : Fin k0_t4_loop.trips) (k0_t6 : Fin (k0_t6_loop k0_t4).trips) : Fin 1 → Nat :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_49 : BitVec 32 := 1#32
  let v98 : BitVec 32 := Scalar.addi arg10 c1_i32_49
  let c36_i32_50 : BitVec 32 := 36#32
  let v99 : BitVec 32 := Scalar.muli v98 c36_i32_50
  let v100 : BitVec 32 := Scalar.subi v99 v97
  let c1_i32_52 : BitVec 32 := 1#32
  let v102 : BitVec 32 := Scalar.divsi v100 c1_i32_52
  let v103 : BitVec 32 := Scalar.muli v102 c1_i32_52
  let v104 : BitVec 32 := Scalar.addi v97 v103
  let c1_i32_54 : BitVec 32 := 1#32
  let arg11 : BitVec 32 := Scf.iv v104 c1_i32_54 k0_t6
  let c16_i32_56 : BitVec 32 := 16#32
  let v108 : BitVec 32 := Scalar.muli arg11 c16_i32_56
  let c1_i32_57 : BitVec 32 := 1#32
  let v109 : BitVec 32 := Scalar.addi v108 c1_i32_57
  let v110 : Index := Scalar.indexCast v109
  ![v110.toNat]
def k0_off12 (k0_t4 : Fin k0_t4_loop.trips) (k0_t6 : Fin (k0_t6_loop k0_t4).trips) : Fin 1 → Nat :=
  let c0_i32_34 : BitVec 32 := 0#32
  let c1_i32_35 : BitVec 32 := 1#32
  let arg10 : BitVec 32 := Scf.iv c0_i32_34 c1_i32_35 k0_t4
  let c36_i32_48 : BitVec 32 := 36#32
  let v97 : BitVec 32 := Scalar.muli arg10 c36_i32_48
  let c1_i32_49 : BitVec 32 := 1#32
  let v98 : BitVec 32 := Scalar.addi arg10 c1_i32_49
  let c36_i32_50 : BitVec 32 := 36#32
  let v99 : BitVec 32 := Scalar.muli v98 c36_i32_50
  let v100 : BitVec 32 := Scalar.subi v99 v97
  let c1_i32_52 : BitVec 32 := 1#32
  let v102 : BitVec 32 := Scalar.divsi v100 c1_i32_52
  let v103 : BitVec 32 := Scalar.muli v102 c1_i32_52
  let v104 : BitVec 32 := Scalar.addi v97 v103
  let c1_i32_54 : BitVec 32 := 1#32
  let arg11 : BitVec 32 := Scf.iv v104 c1_i32_54 k0_t6
  let c16_i32_58 : BitVec 32 := 16#32
  let v112 : BitVec 32 := Scalar.muli arg11 c16_i32_58
  let v113 : Index := Scalar.indexCast v112
  ![v113.toNat]

def k0_chk2 (i : grid0.Coords) (k0_t1 : Fin k0_t1_loop.trips) (v54 : BitVec 32) (v61 : BitVec 32) (k0_t4 : Fin k0_t4_loop.trips) (v78 : BitVec 32) (v90 : BitVec 32) (k0_t6 : Fin (k0_t6_loop k0_t4).trips) (v125 : IVec S16 32) : Prop :=
  (∀ (k0_h3 : k0_cond3 i k0_t1 v54 v61 = 1#1), ∀ (k0_h4 : k0_cond4 i k0_t1 v78 v90 = 1#1), ∀ a x, ((![v125] : Fin 1 → IVec S16 32) a x).toNat < S73728.size a)
theorem k0_idx2_inb : ∀ (i : grid0.Coords) (k0_t1 : Fin k0_t1_loop.trips) (v54 : BitVec 32) (v61 : BitVec 32) (k0_t4 : Fin k0_t4_loop.trips) (v78 : BitVec 32) (v90 : BitVec 32) (k0_t6 : Fin (k0_t6_loop k0_t4).trips) (v125 : IVec S16 32) (k0_hw2 : k0_chk2 i k0_t1 v54 v61 k0_t4 v78 v90 k0_t6 v125), ∀ (k0_h3 : k0_cond3 i k0_t1 v54 v61 = 1#1), ∀ (k0_h4 : k0_cond4 i k0_t1 v78 v90 = 1#1), ∀ a x, ((![v125] : Fin 1 → IVec S16 32) a x).toNat < S73728.size a := fun i k0_t1 v54 v61 k0_t4 v78 v90 k0_t6 v125 k0_hw2 k0_h3 k0_h4 => k0_hw2 k0_h3 k0_h4
def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_2 : BitVec 32 := 24#32
  let v3 : BitVec 32 := Scalar.muli v1 c24_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_4 : BitVec 32 := 0#32
  let v6 : BitVec 1 := Scalar.cmpi .sgt v4 c0_i32_4
  let v7 : BitVec 32 := Scalar.extui v6
  let c0_i32_5 : BitVec 32 := 0#32
  let v8 : BitVec 1 := Scalar.cmpi .slt v4 c0_i32_5
  let v9 : BitVec 32 := Scalar.extui v8
  let v10 : BitVec 32 := Scalar.subi v7 v9
  let c2_i32_3 : BitVec 32 := 2#32
  let c0_i32_6 : BitVec 32 := 0#32
  let v11 : BitVec 1 := Scalar.cmpi .sgt c2_i32_3 c0_i32_6
  let v12 : BitVec 32 := Scalar.extui v11
  let c0_i32_7 : BitVec 32 := 0#32
  let v13 : BitVec 1 := Scalar.cmpi .slt c2_i32_3 c0_i32_7
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_8 : BitVec 32 := 0#32
  let v18 : BitVec 1 := Scalar.cmpi .ne v17 c0_i32_8
  let v19 : BitVec 1 := Scalar.andi v16 v18
  let v5 : BitVec 32 := Scalar.divsi v4 c2_i32_3
  let c1_i32_9 : BitVec 32 := 1#32
  let v20 : BitVec 32 := Scalar.subi v5 c1_i32_9
  let v21 : BitVec 32 := Scalar.select v19 v20 v5
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v4 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c73728_i32_24 : BitVec 32 := 73728#32
  let v37 : BitVec 32 := Scalar.muli v31 c73728_i32_24
  ![v21.toNat, v37.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x192x192 : Shape := ⟨4, ![4, 96, 192, 192]⟩
abbrev S4x96x36864 : Shape := ⟨3, ![4, 96, 36864]⟩
abbrev S4 : Shape := ⟨1, ![4]⟩
abbrev S4x1x1 : Shape := ⟨3, ![4, 1, 1]⟩
abbrev S96 : Shape := ⟨1, ![96]⟩
abbrev S1x96x1 : Shape := ⟨3, ![1, 96, 1]⟩
abbrev S_ : Shape := ⟨0, ![]⟩
abbrev S4x96x147456 : Shape := ⟨3, ![4, 96, 147456]⟩
abbrev S4x96x36864x1 : Shape := ⟨4, ![4, 96, 36864, 1]⟩
abbrev S4x96x36864x3 : Shape := ⟨4, ![4, 96, 36864, 3]⟩
abbrev S4x96x384x384 : Shape := ⟨4, ![4, 96, 384, 384]⟩

abbrev nBuf : Space → Nat
  | .hbm => 39
  | .vmem => 0
  | .smem => 0
  | _ => 0

abbrev bufTy : (tb : Table) → Fin (tcTables nBuf tb) → BufTy
  | .hbm, ⟨0, _⟩ => ⟨S4x96x192x192, .f32⟩
  | .hbm, ⟨1, _⟩ => ⟨S4x96x192x192, .i32⟩
  | .hbm, ⟨2, _⟩ => ⟨S4x96x36864, .f32⟩
  | .hbm, ⟨3, _⟩ => ⟨S4x96x36864, .i32⟩
  | .hbm, ⟨4, _⟩ => ⟨S4, .i32⟩
  | .hbm, ⟨5, _⟩ => ⟨S4x1x1, .i32⟩
  | .hbm, ⟨6, _⟩ => ⟨S96, .i32⟩
  | .hbm, ⟨7, _⟩ => ⟨S1x96x1, .i32⟩
  | .hbm, ⟨8, _⟩ => ⟨S_, .f32⟩
  | .hbm, ⟨9, _⟩ => ⟨S4x96x147456, .f32⟩
  | .hbm, ⟨10, _⟩ => ⟨S_, .i32⟩
  | .hbm, ⟨11, _⟩ => ⟨S4x1x1, .i32⟩
  | .hbm, ⟨12, _⟩ => ⟨S4x1x1, .i1⟩
  | .hbm, ⟨13, _⟩ => ⟨S_, .i32⟩
  | .hbm, ⟨14, _⟩ => ⟨S4x1x1, .i32⟩
  | .hbm, ⟨15, _⟩ => ⟨S4x1x1, .i32⟩
  | .hbm, ⟨16, _⟩ => ⟨S4x1x1, .i32⟩
  | .hbm, ⟨17, _⟩ => ⟨S_, .i32⟩
  | .hbm, ⟨18, _⟩ => ⟨S1x96x1, .i32⟩
  | .hbm, ⟨19, _⟩ => ⟨S1x96x1, .i1⟩
  | .hbm, ⟨20, _⟩ => ⟨S_, .i32⟩
  | .hbm, ⟨21, _⟩ => ⟨S1x96x1, .i32⟩
  | .hbm, ⟨22, _⟩ => ⟨S1x96x1, .i32⟩
  | .hbm, ⟨23, _⟩ => ⟨S1x96x1, .i32⟩
  | .hbm, ⟨24, _⟩ => ⟨S_, .i32⟩
  | .hbm, ⟨25, _⟩ => ⟨S4x96x36864, .i32⟩
  | .hbm, ⟨26, _⟩ => ⟨S4x96x36864, .i1⟩
  | .hbm, ⟨27, _⟩ => ⟨S_, .i32⟩
  | .hbm, ⟨28, _⟩ => ⟨S4x96x36864, .i32⟩
  | .hbm, ⟨29, _⟩ => ⟨S4x96x36864, .i32⟩
  | .hbm, ⟨30, _⟩ => ⟨S4x96x36864, .i32⟩
  | .hbm, ⟨31, _⟩ => ⟨S4x96x36864, .i32⟩
  | .hbm, ⟨32, _⟩ => ⟨S4x96x36864, .i32⟩
  | .hbm, ⟨33, _⟩ => ⟨S4x96x36864x1, .i32⟩
  | .hbm, ⟨34, _⟩ => ⟨S4x96x36864x1, .i32⟩
  | .hbm, ⟨35, _⟩ => ⟨S4x96x36864x1, .i32⟩
  | .hbm, ⟨36, _⟩ => ⟨S4x96x36864x3, .i32⟩
  | .hbm, ⟨37, _⟩ => ⟨S4x96x147456, .f32⟩
  | .hbm, ⟨38, _⟩ => ⟨S4x96x384x384, .f32⟩
  | _, _ => ⟨S4x96x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Words.lean ====
/-
  The kernel's own index arithmetic, read as numbers: which plane and which half of it a task writes, where its chunk of the
  sorted list begins, when a chunk is the last one of the list, and what the two "does this stretch overlap the half" tests say.
  Also the two running extrema the kernel takes of sixteen words with their sign bit flipped, read as signed numbers.
-/
module

public import proofs.«01_k».proof.Proof.Gen.KernelIdeal
public import proofs.«01_k».proof.Proof.Gen.KernelIdeal.Skeleton
public import Idealize.ShloMosaic.Lib.Affine

@[expose] public section

noncomputable section

namespace Cert.Proof.Words

open Cert.KernelIdeal Cert.KernelIdeal.Gen
open Idealize.ShloMosaic Idealize.SL.Sem

/-! ## Task, plane, half -/

/-- The number of the task a subcore works on at trip `t`. -/
def task (i : grid0.Coords) (t : ℕ) : ℕ := 48 * (i 1).val + 24 * (i 0).val + t

/-- That number as the kernel computes it. -/
def taskW (i : grid0.Coords) (t : Fin k0_t1_loop.trips) : BitVec 32 :=
  Scalar.addi (Scalar.muli (Scalar.addi (Scalar.muli (BitVec.ofNat 32 (i 1).val) 2#32) (BitVec.ofNat 32 (i 0).val)) 24#32)
    (Scf.iv 0#32 1#32 t)

/-- The quotient by two rounded down, as the kernel computes it. -/
def halveW (v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 2#32 0#32)) (Scalar.extui (Scalar.cmpi .slt 2#32 0#32))))
      (Scalar.cmpi .ne (Scalar.remsi v 2#32) 0#32))
    (Scalar.subi (Scalar.divsi v 2#32) 1#32) (Scalar.divsi v 2#32)

/-- The remainder by two, as the kernel computes it. -/
def parityW (v : BitVec 32) : BitVec 32 :=
  let d := Scalar.select (Scalar.cmpi .eq 2#32 0#32) 1#32 2#32
  let r := Scalar.remsi v d
  Scalar.select (Scalar.andi (Scalar.xori (Scalar.cmpi .slt r 0#32) (Scalar.cmpi .slt d 0#32)) (Scalar.cmpi .ne r 0#32))
    (Scalar.addi r d) r

/-- The first key of the half plane a task writes, as the kernel computes it. -/
def baseW (v : BitVec 32) : BitVec 32 :=
  Scalar.addi (Scalar.muli (halveW v) 147456#32) (Scalar.muli (parityW v) 73728#32)

theorem halveW_isInt {v : BitVec 32} {e : ℤ} (hv : Affine.IsInt v e) (h0 : 0 ≤ e) (h1 : e < 2 ^ 31) : Affine.IsInt (halveW v) (e / 2) := by
  have z : Affine.IsInt 0#32 0 := Affine.ofNat _ (by omega)
  have one : Affine.IsInt 1#32 1 := Affine.ofNat _ (by omega)
  have two : Affine.IsInt 2#32 2 := Affine.ofNat _ (by omega)
  have hq : Affine.IsInt (Scalar.divsi v 2#32) (e / 2) := Affine.divsi hv two (by omega)
  have hs : Affine.IsInt (Scalar.subi (Scalar.divsi v 2#32) 1#32) (e / 2 - 1) := Affine.subi hq one (by omega)
  have hsign : Affine.IsInt (Scalar.subi (Scalar.extui (Scalar.cmpi .sgt 2#32 0#32)) (Scalar.extui (Scalar.cmpi .slt 2#32 0#32))) 1 :=
    Affine.subi (Affine.extui_holds (Affine.sgt_holds two z (by omega)) rfl) (Affine.extui_fails (Affine.slt_fails two z (by omega)) rfl) (by omega)
  have hneg : Affine.IsInt (Scalar.extui (Scalar.cmpi .slt v 0#32)) 0 := Affine.extui_fails (Affine.slt_fails hv z (by omega)) rfl
  unfold halveW
  refine Affine.select_fails ?_ hs hq rfl
  rcases (show e = 0 ∨ 0 < e by omega) with he | he
  · refine Affine.andi_fails_right (Affine.tH (Affine.ne_holds (Affine.subi (Affine.extui_fails (Affine.sgt_fails hv z (by omega)) rfl) hneg (e := 0) (by omega)) hsign (by omega))) ?_
    exact Affine.ne_fails (Affine.remsi hv two (e := 0) (by omega)) z rfl
  · exact Affine.andi_fails_left (Affine.ne_fails (Affine.subi (Affine.extui_holds (Affine.sgt_holds hv z (by omega)) rfl) hneg (e := 1) (by omega)) hsign rfl) trivial

theorem parityW_isInt {v : BitVec 32} {e : ℤ} (hv : Affine.IsInt v e) (h0 : 0 ≤ e) : Affine.IsInt (parityW v) (e % 2) := by
  have z : Affine.IsInt 0#32 0 := Affine.ofNat _ (by omega)
  have two : Affine.IsInt 2#32 2 := Affine.ofNat _ (by omega)
  have one : Affine.IsInt 1#32 1 := Affine.ofNat _ (by omega)
  have hd : Affine.IsInt (Scalar.select (Scalar.cmpi .eq 2#32 0#32) 1#32 2#32) 2 :=
    Affine.select_fails (Affine.eq_fails two z (by omega)) one two rfl
  have hr : Affine.IsInt (Scalar.remsi v (Scalar.select (Scalar.cmpi .eq 2#32 0#32) 1#32 2#32)) (e % 2) := Affine.remsi hv hd (by omega)
  unfold parityW
  refine Affine.select_fails (Affine.andi_fails_left (Affine.xori_ff (Affine.slt_fails hr z (by omega)) (Affine.slt_fails hd z (by omega))) trivial)
    (Affine.addi hr hd (e := e % 2 + 2) (by omega)) hr rfl

section Task

variable (i : grid0.Coords) (t : Fin k0_t1_loop.trips)

theorem core_lt : (i 0).val < 2 := (i 0).isLt
theorem sub_lt : (i 1).val < 16 := (i 1).isLt
theorem trip_lt : t.val < 24 := Nat.lt_of_lt_of_le t.isLt k0_t1_abs.2.1
theorem task_lt : task i t < 768 := by
  have := core_lt i; have := sub_lt i; have := trip_lt t; unfold task; omega

theorem iv_isInt (n : ℕ) (hn : n < 2 ^ 31) : Affine.IsInt (Scf.iv 0#32 1#32 n) n :=
  Affine.iv (ea := 0) (eb := 1) (Affine.ofNat _ (by omega)) (Affine.ofNat _ (by omega)) n (by omega)

theorem taskW_isInt : Affine.IsInt (taskW i t) (task i t) := by
  have h0 := core_lt i; have h1 := sub_lt i; have ht := trip_lt t
  have a1 : Affine.IsInt (BitVec.ofNat 32 (i 1).val) ((i 1).val : ℤ) := Affine.ofNat _ (by omega)
  have a0 : Affine.IsInt (BitVec.ofNat 32 (i 0).val) ((i 0).val : ℤ) := Affine.ofNat _ (by omega)
  have two : Affine.IsInt 2#32 2 := Affine.ofNat _ (by omega)
  have c24 : Affine.IsInt 24#32 24 := Affine.ofNat _ (by omega)
  have b := Affine.addi (e := 2 * ((i 1).val : ℤ) + (i 0).val) (Affine.muli (e := 2 * ((i 1).val : ℤ)) a1 two (by omega)) a0 (by omega)
  unfold taskW task
  exact Affine.addi (Affine.muli (e := 48 * ((i 1).val : ℤ) + 24 * (i 0).val) b c24 (by omega)) (iv_isInt t.val (by omega)) (by omega)

/-- The plane a task writes, and which half of it. -/
def plane : ℕ := task i t / 2
def half : ℕ := task i t % 2
/-- The first key of that half plane. -/
def base : ℕ := plane i t * 147456 + half i t * 73728

theorem plane_lt : plane i t < 384 := by have := task_lt i t; unfold plane; omega
theorem half_lt : half i t < 2 := by unfold half; omega

theorem plane_isInt : Affine.IsInt (halveW (taskW i t)) (plane i t) := by
  have := task_lt i t
  have h := halveW_isInt (taskW_isInt i t) (by omega) (by omega)
  unfold plane; exact Affine.relit h (by omega)

theorem half_isInt : Affine.IsInt (parityW (taskW i t)) (half i t) := by
  have h := parityW_isInt (taskW_isInt i t) (by omega)
  unfold half; exact Affine.relit h (by omega)

theorem base_isInt : Affine.IsInt (baseW (taskW i t)) (base i t) := by
  have := plane_lt i t; have := half_lt i t
  unfold baseW base
  exact Affine.addi (Affine.muli (e := (plane i t : ℤ) * 147456) (plane_isInt i t) (Affine.ofNat _ (e := 147456) (by omega)) (by omega))
    (Affine.muli (e := (half i t : ℤ) * 73728) (half_isInt i t) (Affine.ofNat _ (e := 73728) (by omega)) (by omega)) (by omega)

theorem isInt_toInt {x : BitVec 32} {e : ℤ} (h : Affine.IsInt x e) : x.toInt = e := Affine.unique (Affine.word x) h

theorem base_toInt : (baseW (taskW i t)).toInt = base i t := isInt_toInt (base_isInt i t)

/-! ## Trip counts -/

theorem trips1 : k0_t1_loop.trips = 24 := by decide +kernel
theorem trips2 : k0_t2_loop.trips = 4608 := by decide +kernel
theorem trips3 : k0_t3_loop.trips = 4 := by decide +kernel
theorem trips4 : k0_t4_loop.trips = 16 := by decide +kernel
theorem trips5 : ∀ b : Fin k0_t4_loop.trips, (k0_t5_loop b).trips = 36 := by decide +kernel
theorem trips6 (b : Fin k0_t4_loop.trips) : (k0_t6_loop b).trips = 0 := Nat.le_zero.mp (k0_t6_abs b).2.1

/-! ## Chunks -/

variable (c : Fin k0_t3_loop.trips)

theorem chunk_lt : c.val < 4 := Nat.lt_of_lt_of_le c.isLt k0_t3_abs.2.1

/-- Where in the sorted list a chunk begins. -/
def start : ℕ := plane i t * 36864 + c.val * 9216

theorem start_le : start i t c + 9216 ≤ 14155776 := by
  have := plane_lt i t; have := chunk_lt c; unfold start; omega

def startW : BitVec 32 := Scalar.addi (Scalar.muli (halveW (taskW i t)) 36864#32) (Scalar.muli (Scf.iv 0#32 1#32 c) 9216#32)

theorem start_isInt : Affine.IsInt (startW i t c) (start i t c) := by
  have := plane_lt i t; have := chunk_lt c
  unfold startW start
  exact Affine.addi (Affine.muli (e := (plane i t : ℤ) * 36864) (plane_isInt i t) (Affine.ofNat _ (e := 36864) (by omega)) (by omega))
    (Affine.muli (e := (c.val : ℤ) * 9216) (iv_isInt c.val (by omega)) (Affine.ofNat _ (e := 9216) (by omega)) (by omega)) (by omega)

theorem off2_eq : k0_off2 i t c = ![start i t c] := by
  show ![(startW i t c).toNat] = _
  rw [Affine.nat_eq (start_isInt i t c) _ rfl]
theorem off3_eq : k0_off3 i t c = ![start i t c] := by
  show ![(startW i t c).toNat] = _
  rw [Affine.nat_eq (start_isInt i t c) _ rfl]
theorem off4_eq : k0_off4 i t c = ![start i t c] := by
  show ![(startW i t c).toNat] = _
  rw [Affine.nat_eq (start_isInt i t c) _ rfl]

theorem off13_eq : k0_off13 i t = ![plane i t, half i t * 73728] := by
  have := half_lt i t
  show ![(halveW (taskW i t)).toNat, (Scalar.muli (parityW (taskW i t)) 73728#32).toNat] = _
  rw [Affine.nat_eq (plane_isInt i t) _ rfl,
    Affine.nat_eq (Affine.muli (e := (half i t : ℤ) * 73728) (half_isInt i t) (Affine.ofNat _ (e := 73728) (by omega)) (by omega)) (half i t * 73728) (by omega)]

/-- The last-chunk test. -/
theorem last_isInt : Affine.IsInt (Scalar.addi (startW i t c) 9216#32) ((start i t c : ℤ) + 9216) := by
  have := start_le i t c
  exact Affine.addi (start_isInt i t c) (Affine.ofNat _ (e := 9216) (by omega)) (by omega)

theorem cond1_iff : k0_cond1 i t c = 1#1 ↔ 14155776 ≤ start i t c + 9216 := by
  show Scalar.cmpi .ne (Scalar.extui (Scalar.cmpi .sge (Scalar.addi (startW i t c) 9216#32) 14155776#32)) 0#32 = 1#1 ↔ _
  refine (Scalar.guard_iff _).trans (IntOp.cmpi_sge.trans ?_)
  rw [isInt_toInt (last_isInt i t c), isInt_toInt (Affine.ofNat 14155776 (e := 14155776) (by omega))]
  omega

theorem not_bit (x : BitVec 1) : Scalar.xori x 1#1 = 1#1 ↔ ¬ x = 1#1 := by revert x; decide

theorem cond2_iff : k0_cond2 i t c = 1#1 ↔ ¬ 14155776 ≤ start i t c + 9216 := by
  show Scalar.cmpi .ne (Scalar.extui (Scalar.xori (Scalar.cmpi .sge (Scalar.addi (startW i t c) 9216#32) 14155776#32) 1#1)) 0#32 = 1#1 ↔ _
  exact (Scalar.guard_iff _).trans ((not_bit _).trans (not_congr ((Scalar.guard_iff _).symm.trans (cond1_iff i t c))))

/-- The overlap test of a stretch whose least word is `lo` and greatest `hi`. -/
theorem overlap_iff (lo hi : BitVec 32) :
    Scalar.cmpi .ne (Scalar.extui (Scalar.andi (Scalar.cmpi .sge hi (baseW (taskW i t))) (Scalar.cmpi .slt lo (Scalar.addi (baseW (taskW i t)) 73728#32)))) 0#32 = 1#1
      ↔ (base i t : ℤ) ≤ hi.toInt ∧ lo.toInt < base i t + 73728 := by
  have h : Affine.IsInt (Scalar.addi (baseW (taskW i t)) 73728#32) ((base i t : ℤ) + 73728) := by
    have := plane_lt i t; have := half_lt i t
    refine Affine.addi (base_isInt i t) (Affine.ofNat _ (e := 73728) (by omega)) ?_
    unfold base; omega
  refine (Scalar.guard_iff _).trans (IntOp.andi_eq_one.trans (and_congr (IntOp.cmpi_sge.trans ?_) (IntOp.cmpi_slt.trans ?_)))
  · rw [base_toInt]
  · rw [isInt_toInt h]

theorem cond3_iff (lo hi : BitVec 32) : k0_cond3 i t lo hi = 1#1 ↔ (base i t : ℤ) ≤ hi.toInt ∧ lo.toInt < base i t + 73728 := overlap_iff i t lo hi
theorem cond4_iff (lo hi : BitVec 32) : k0_cond4 i t lo hi = 1#1 ↔ (base i t : ℤ) ≤ hi.toInt ∧ lo.toInt < base i t + 73728 := overlap_iff i t lo hi

end Task

/-! ## Vectors of a block -/

section Block

variable (b : Fin k0_t4_loop.trips) (v : Fin (k0_t5_loop b).trips)

theorem block_lt : b.val < 16 := Nat.lt_of_lt_of_le b.isLt k0_t4_abs.2.1
theorem vec_lt : v.val < 36 := Nat.lt_of_lt_of_le v.isLt (k0_t5_abs b).2.1

def vecW : BitVec 32 := Scf.iv (Scalar.muli (Scf.iv 0#32 1#32 b) 36#32) 1#32 v

theorem vec_isInt : Affine.IsInt (Scalar.muli (vecW b v) 16#32) (576 * (b.val : ℤ) + 16 * v.val) := by
  have := block_lt b; have := vec_lt b v
  refine Affine.muli (ea := 36 * (b.val : ℤ) + v.val) ?_ (Affine.ofNat _ (e := 16) (by omega)) (by omega)
  exact Affine.iv (Affine.muli (e := 36 * (b.val : ℤ)) (iv_isInt b.val (by omega)) (Affine.ofNat _ (e := 36) (by omega)) (by omega))
    (Affine.ofNat _ (e := 1) (by omega)) v.val (by omega)

theorem off7_eq : k0_off7 b v = ![576 * b.val + 16 * v.val] := by
  show ![(Scalar.indexCast (Scalar.muli (vecW b v) 16#32)).toNat] = _
  rw [Affine.nat_eq (Affine.indexCast (vec_isInt b v)) (576 * b.val + 16 * v.val) (by omega)]
theorem off9_eq : k0_off9 b v = ![576 * b.val + 16 * v.val] := off7_eq b v
theorem off8_eq : k0_off8 b v = ![576 * b.val + 16 * v.val + 1] := by
  have := block_lt b; have := vec_lt b v
  show ![(Scalar.indexCast (Scalar.addi (Scalar.muli (vecW b v) 16#32) 1#32)).toNat] = _
  rw [Affine.nat_eq (Affine.indexCast (Affine.addi (e := 576 * (b.val : ℤ) + 16 * v.val + 1) (vec_isInt b v) (Affine.ofNat _ (e := 1) (by omega)) (by omega)))
    (576 * b.val + 16 * v.val + 1) (by omega)]

end Block

/-! ## The running extrema of sixteen words -/

/-- Flipping the sign bit turns the signed order into the unsigned one. -/
theorem flip_toNat (x : BitVec 32) : ((x ^^^ 2147483648#32).toNat : ℤ) = x.toInt + 2147483648 := by
  have hx := x.isLt
  have h1 : (x.toNat ^^^ 2147483648) / 2 ^ 31 = x.toNat / 2 ^ 31 ^^^ 1 := by
    rw [Nat.xor_div_two_pow]
  have h2 : (x.toNat ^^^ 2147483648) % 2 ^ 31 = x.toNat % 2 ^ 31 := by
    rw [Nat.xor_mod_two_pow]; simp
  have h3 : (x ^^^ 2147483648#32).toNat = x.toNat ^^^ 2147483648 := by simp
  rw [h3, BitVec.toInt_eq_toNat_cond]
  rcases (show x.toNat / 2 ^ 31 = 0 ∨ x.toNat / 2 ^ 31 = 1 by omega) with hq | hq
  · rw [hq] at h1
    have h1' : (x.toNat ^^^ 2147483648) / 2 ^ 31 = 1 := h1
    split <;> omega
  · rw [hq] at h1
    have h1' : (x.toNat ^^^ 2147483648) / 2 ^ 31 = 0 := h1
    split <;> omega

theorem flip_flip (x : BitVec 32) : (x ^^^ 2147483648#32) ^^^ 2147483648#32 = x := by
  rw [BitVec.xor_assoc, BitVec.xor_self, BitVec.xor_zero]

/-- A word with its sign bit flipped back reads as the unsigned number less half the range. -/
theorem unflip_toInt (x : BitVec 32) : (x ^^^ 2147483648#32).toInt = (x.toNat : ℤ) - 2147483648 := by
  have h := flip_toNat (x ^^^ 2147483648#32)
  rw [flip_flip] at h; omega

theorem foldl_minui_le {α : Type} (g : α → BitVec 32) (l : List α) (r : BitVec 32) :
    (l.foldl (fun r k => IntOp.minui r (g k)) r).toNat ≤ r.toNat := by
  induction l generalizing r with
  | nil => exact le_refl _
  | cons k l ih =>
    refine (ih _).trans ?_
    simp only [IntOp.minui]
    split
    · exact le_refl _
    · rename_i h; rw [BitVec.ult_iff_toNat_lt] at h; omega

theorem le_foldl_maxui_start {α : Type} (g : α → BitVec 32) (l : List α) (r : BitVec 32) :
    r.toNat ≤ (l.foldl (fun r k => IntOp.maxui r (g k)) r).toNat := by
  induction l generalizing r with
  | nil => exact le_refl _
  | cons k l ih =>
    refine le_trans ?_ (ih _)
    simp only [IntOp.maxui]
    split
    · exact le_refl _
    · rename_i h; rw [BitVec.ult_iff_toNat_lt] at h; omega

theorem le_foldl_maxui {α : Type} (g : α → BitVec 32) (l : List α) (r : BitVec 32) {k : α} (hk : k ∈ l) :
    (g k).toNat ≤ (l.foldl (fun r k => IntOp.maxui r (g k)) r).toNat := by
  induction l generalizing r with
  | nil => cases hk
  | cons k' l ih =>
    rcases List.mem_cons.mp hk with rfl | hk
    · refine le_trans ?_ (le_foldl_maxui_start g l _)
      simp only [IntOp.maxui]
      split
      · rename_i h; rw [BitVec.ult_iff_toNat_lt] at h; omega
      · exact le_refl _
    · exact ih _ hk

variable {F : FTy → Type} [FloatOps F]

/-- Lane `n` of a sixteen-lane vector. -/
def lane (n : ℕ) (h : n < 16) : S16.Idx := Shape.ofLane (d := S16.size) ⟨n, h⟩

theorem least_le (v : Vec F S16 .i32) (h : ∀ a, (![15] : Fin S16.rank → ℕ) a < S16.size a) :
    (extractAt ![15] (k0_pay2 v) h : BitVec 32).toInt ≤ (v (lane 0 (by omega)) : BitVec 32).toInt := by
  have e : (extractAt ![15] (k0_pay2 v) h : BitVec 32) = (scan .min (fun j => (v j : BitVec 32) ^^^ 2147483648#32) (fun a => ⟨![15] a, h a⟩) : BitVec 32) ^^^ 2147483648#32 := rfl
  rw [e, unflip_toInt]
  have := foldl_minui_le (fun k => (v (Shape.ofLane (d := S16.size) k) : BitVec 32) ^^^ 2147483648#32)
    ((List.finRange (S16.size 0)).filter fun k => decide (0 < k.val ∧ k.val ≤ 15)) ((v (lane 0 (by omega)) : BitVec 32) ^^^ 2147483648#32)
  have h2 := flip_toNat (v (lane 0 (by omega)) : BitVec 32)
  have h3 : (scan .min (fun j => (v j : BitVec 32) ^^^ 2147483648#32) (fun a => ⟨![15] a, h a⟩) : BitVec 32).toNat ≤ ((v (lane 0 (by omega)) : BitVec 32) ^^^ 2147483648#32).toNat := this
  omega

theorem le_greatest (v : Vec F S16 .i32) (h : ∀ a, (![15] : Fin S16.rank → ℕ) a < S16.size a) :
    (v (lane 15 (by omega)) : BitVec 32).toInt ≤ (extractAt ![15] (k0_pay3 v) h : BitVec 32).toInt := by
  have e : (extractAt ![15] (k0_pay3 v) h : BitVec 32) = (scan .max (fun j => (v j : BitVec 32) ^^^ 2147483648#32) (fun a => ⟨![15] a, h a⟩) : BitVec 32) ^^^ 2147483648#32 := rfl
  rw [e, unflip_toInt]
  have := le_foldl_maxui (fun k => (v (Shape.ofLane (d := S16.size) k) : BitVec 32) ^^^ 2147483648#32)
    ((List.finRange (S16.size 0)).filter fun k => decide (0 < k.val ∧ k.val ≤ 15)) ((v (lane 0 (by omega)) : BitVec 32) ^^^ 2147483648#32)
    (k := (⟨15, by decide⟩ : Fin (S16.size 0))) (List.mem_filter.mpr ⟨List.mem_finRange _, by decide⟩)
  have h2 := flip_toNat (v (lane 15 (by omega)) : BitVec 32)
  have h3 : ((v (lane 15 (by omega)) : BitVec 32) ^^^ 2147483648#32).toNat ≤ (scan .max (fun j => (v j : BitVec 32) ^^^ 2147483648#32) (fun a => ⟨![15] a, h a⟩) : BitVec 32).toNat := this
  omega

end Cert.Proof.Words

end
-- ==== Proof.Model.lean ====
/-
  What one task leaves in its half plane, as a function of the sorted list alone: going along the list, a position stores its
  value at the cell its key names when the next key is another one.  `acc` is that walk; a block whose keys all lie outside the
  half plane leaves it alone; sixteen positions at once are the masked store of the kernel.
-/
module

public import proofs.«01_k».proof.Proof.Words

@[expose] public section

noncomputable section

namespace Cert.Proof.Model

open Cert.KernelIdeal Cert.KernelIdeal.Gen Cert.Proof.Words
open Idealize.ShloMosaic Idealize.SL.Sem

/-! ## The sorted list -/

/-- Position `r` of a list of the length of the sorted one, as an index. -/
def pos (r : ℕ) (h : r < 14155776) : S14155776.Idx := Shape.ofLane (d := S14155776.size) ⟨r, h⟩

/-- The key at position `r`; `-1` past the end. -/
def key (si : S14155776.Idx → BitVec 32) (r : ℕ) : ℤ := if h : r < 14155776 then (si (pos r h)).toInt else -1

/-- The value at position `r`; `z` past the end. -/
def val {α : Type} (sv : S14155776.Idx → α) (z : α) (r : ℕ) : α := if h : r < 14155776 then sv (pos r h) else z

/-- The keys ascend. -/
def Ascends (si : S14155776.Idx → BitVec 32) : Prop := ∀ a b, a ≤ b → b < 14155776 → key si a ≤ key si b

section Walk

variable {α : Type} (K : ℕ → ℤ) (V : ℕ → α) (z : α)

/-- The cell of key `q` after the first `n` positions from `lo`. -/
def acc (lo : ℕ) : ℕ → ℤ → α
  | 0, _ => z
  | n + 1, q => if K (lo + n) = q ∧ K (lo + n) ≠ K (lo + n + 1) then V (lo + n) else acc lo n q

/-- Positions with other keys leave a cell alone. -/
theorem acc_skip (lo n k : ℕ) (q : ℤ) (h : ∀ j, n ≤ j → j < n + k → K (lo + j) ≠ q) : acc K V z lo (n + k) q = acc K V z lo n q := by
  induction k with
  | zero => rfl
  | succ k ih =>
    have e : acc K V z lo (n + (k + 1)) q = if K (lo + (n + k)) = q ∧ K (lo + (n + k)) ≠ K (lo + (n + k) + 1) then V (lo + (n + k)) else acc K V z lo (n + k) q := rfl
    rw [e, if_neg (fun hh => h (n + k) (by omega) (by omega) hh.1)]
    exact ih fun j h1 h2 => h j h1 (by omega)

end Walk

/-! ## A stretch outside the half plane -/

/-- When a stretch's last key is below the half plane or its first key above, none of its keys names a cell of it. -/
theorem outside {si : S14155776.Idx → BitVec 32} (hs : Ascends si) {s n : ℕ} (hn : 0 < n) (hle : s + n ≤ 14155776) {base : ℕ} {lo hi : BitVec 32}
    (hlo : lo.toInt ≤ key si s) (hhi : key si (s + n - 1) ≤ hi.toInt) (hc : ¬ ((base : ℤ) ≤ hi.toInt ∧ lo.toInt < base + 73728))
    (j : ℕ) (hj : j < n) (k : ℕ) (hk : k < 73728) : key si (s + j) ≠ (base : ℤ) + k := by
  have h1 := hs s (s + j) (by omega) (by omega)
  have h2 := hs (s + j) (s + n - 1) (by omega) (by omega)
  omega

/-! ## Sixteen positions -/

theorem foldl_finRange_inv {β : Type} {n : ℕ} (P : ℕ → β → Prop) (f : β → Fin n → β) (b : β) (h0 : P 0 b)
    (hs : ∀ (k : Fin n) g, P k.val g → P (k.val + 1) (f g k)) : P n ((List.finRange n).foldl f b) := by
  induction n with
  | zero => simpa using h0
  | succ n ih =>
    rw [List.finRange_succ_last, List.foldl_append, List.foldl_map]
    exact hs (Fin.last n) _ (ih (fun g k => f g k.castSucc) fun k g hk => hs k.castSucc g hk)

/-- A key taken from the base, wrapped, lies in the half plane exactly when the key does. -/
theorem offset_mem (x b : BitVec 32) (base : ℕ) (hb : b.toInt = base) (hb' : base < 100000000) :
    (0 ≤ (x - b).toInt ∧ (x - b).toInt < 73728) ↔ ((base : ℤ) ≤ x.toInt ∧ x.toInt < base + 73728) := by
  rw [BitVec.toInt_sub, hb]
  have h1 := BitVec.le_toInt x; have h2 := BitVec.toInt_lt (x := x)
  rw [Int.bmod_def]
  split <;> omega

theorem offset_toNat (x b : BitVec 32) (base : ℕ) (hb : b.toInt = base) (hb' : base < 100000000)
    (h : (base : ℤ) ≤ x.toInt ∧ x.toInt < base + 73728) : ((x - b).toNat : ℤ) = x.toInt - base := by
  have hm := (offset_mem x b base hb hb').mpr h
  have e : (x - b).toInt = x.toInt - base := by
    rw [BitVec.toInt_sub, hb]
    have h1 := BitVec.le_toInt x; have h2 := BitVec.toInt_lt (x := x)
    rw [Int.bmod_def]
    split <;> omega
  rw [← e, BitVec.toInt_eq_toNat_cond]
  have := (x - b).isLt
  rw [BitVec.toInt_eq_toNat_cond] at hm
  split <;> rename_i hh
  · rfl
  · rw [if_neg hh] at hm; omega

variable {F : FTy → Type} [FloatOps F]

section Store

variable (b : BitVec 32) (base : ℕ) (hb : b.toInt = base) (hb' : base < 100000000) (v w : Vec F S16 .i32)

include hb hb'

theorem mask_iff (j : S16.Idx) : k0_pay7 (F := F) b v w j = 1#1
    ↔ ((base : ℤ) ≤ (v j : BitVec 32).toInt ∧ (v j : BitVec 32).toInt < base + 73728) ∧ (v j : BitVec 32) ≠ (w j : BitVec 32) := by
  have e : k0_pay7 (F := F) b v w j = IntOp.andi (IntOp.andi (IntOp.cmpi .sge ((v j : BitVec 32) - b) 0#32) (IntOp.cmpi .slt ((v j : BitVec 32) - b) 73728#32))
      (IntOp.cmpi .ne (v j : BitVec 32) (w j : BitVec 32)) := rfl
  rw [e, IntOp.andi_eq_one, IntOp.andi_eq_one, IntOp.cmpi_sge, IntOp.cmpi_slt, IntOp.cmpi_ne, ← offset_mem _ b base hb hb']
  exact Iff.rfl

theorem index_of_mask (j : S16.Idx) (h : k0_pay7 (F := F) b v w j = 1#1) :
    ((k0_pay8 (F := F) b v w j : BitVec 32).toNat : ℤ) = (v j : BitVec 32).toInt - base := by
  have e : (k0_pay8 (F := F) b v w j : BitVec 32) = if k0_pay7 (F := F) b v w j = 1#1 then (v j : BitVec 32) - b else 0#32 := rfl
  rw [e, if_pos h]
  exact offset_toNat _ b base hb hb' ((mask_iff b base hb hb' v w j).mp h).1

theorem index_lt (j : S16.Idx) : (k0_pay8 (F := F) b v w j : BitVec 32).toNat < 73728 := by
  by_cases h : k0_pay7 (F := F) b v w j = 1#1
  · have h1 := index_of_mask b base hb hb' v w j h
    have h2 := ((mask_iff b base hb hb' v w j).mp h).1
    omega
  · have e : (k0_pay8 (F := F) b v w j : BitVec 32) = if k0_pay7 (F := F) b v w j = 1#1 then (v j : BitVec 32) - b else 0#32 := rfl
    rw [e, if_neg h]; decide

/-- The masked store of sixteen positions is sixteen steps of the walk. -/
theorem store_steps (K : ℕ → ℤ) (V : ℕ → F .f32) (z : F .f32) (lo n : ℕ) (x : Vec F S16 .f32) (f : Vec F S73728 .f32)
    (h : ∀ a j, ((![k0_pay8 (F := F) b v w] : Fin 1 → IVec S16 32) a j).toNat < S73728.size a)
    (hv : ∀ k (hk : k < 16), (v (lane k hk) : BitVec 32).toInt = K (lo + (n + k)))
    (hw : ∀ k (hk : k < 16), (w (lane k hk) : BitVec 32).toInt = K (lo + (n + k) + 1))
    (hx : ∀ k (hk : k < 16), x (lane k hk) = V (lo + (n + k)))
    (hf : ∀ j : S73728.Idx, f j = acc K V z lo n ((base : ℤ) + (j 0).val)) (j : S73728.Idx) :
    storeIdx f ![k0_pay8 (F := F) b v w] x (k0_pay7 (F := F) b v w) false h j = acc K V z lo (n + 16) ((base : ℤ) + (j 0).val) := by
  refine foldl_finRange_inv (n := 16) (fun k g => ∀ j : S73728.Idx, g j = acc K V z lo (n + k) ((base : ℤ) + (j 0).val)) _ f hf ?_ j
  intro k g hg j
  have hk := k.isLt
  have e : acc K V z lo (n + (k.val + 1)) ((base : ℤ) + (j 0).val) = if K (lo + (n + k.val)) = (base : ℤ) + (j 0).val ∧ K (lo + (n + k.val)) ≠ K (lo + (n + k.val) + 1)
      then V (lo + (n + k.val)) else acc K V z lo (n + k.val) ((base : ℤ) + (j 0).val) := rfl
  rw [e, ← hv k.val hk, ← hw k.val hk, ← hx k.val hk, ← hg j]
  have hm := mask_iff b base hb hb' v w (lane k.val hk)
  have hne : (v (lane k.val hk) : BitVec 32) ≠ (w (lane k.val hk) : BitVec 32) ↔ (v (lane k.val hk) : BitVec 32).toInt ≠ (w (lane k.val hk) : BitVec 32).toInt :=
    not_congr BitVec.toInt_inj.symm
  have hj : (j 0).val < 73728 := (j 0).isLt
  have hl : (Shape.ofLane k : S16.Idx) = lane k.val hk := rfl
  simp only [hl, Bool.false_eq_true, if_false]
  by_cases hmask : k0_pay7 (F := F) b v w (lane k.val hk) = 1#1
  · rw [if_pos (show _ = (1 : BitVec 1) from hmask)]
    have hi := index_of_mask b base hb hb' v w (lane k.val hk) hmask
    have hmm := hm.mp hmask
    have hiff : (∀ a, (j a).val = (idxAt ![k0_pay8 (F := F) b v w] h (lane k.val hk) a).val) ↔ (j 0).val = (k0_pay8 (F := F) b v w (lane k.val hk) : BitVec 32).toNat := by
      constructor
      · intro hh; exact hh 0
      · intro hh a; rw [Fin.eq_zero a]; exact hh
    refine if_congr (hiff.trans ?_) rfl rfl
    rw [and_iff_left (hne.mp hmm.2)]
    omega
  · rw [if_neg (show ¬ _ = (1 : BitVec 1) from hmask), if_neg]
    intro hh
    exact hmask (hm.mpr ⟨by omega, hne.mpr hh.2⟩)

end Store

end Cert.Proof.Model

end
-- ==== Proof.Setup.lean ====
/-
  The program as the launch theorem sees it, the buffers a task works in under their names, and the pieces of the result and of
  the sorted list each task holds.
-/
module

public import proofs.«01_k».proof.Proof.Model
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.LoopRemainder

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev kLoc (d : Dev nD) : Loc nD τ sig := (SparseCore.T d).loc main_v9_0
abbrev vLoc (d : Dev nD) : Loc nD τ sig := (SparseCore.T d).loc main_v9_1
abbrev oLoc (d : Dev nD) : Loc nD τ sig := (SparseCore.T d).loc main_v10

local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)

/-! ## Shares of the sorted list: a share halved `n` times -/

/-- Piece `i` of share `q` halved `n` times. -/
def piece : (n : ℕ) → PosShare TreeShare → Fin (2 ^ n) → PosShare TreeShare
  | 0, q, _ => q
  | n + 1, q, i => piece n (if i.val < 2 ^ n then q.left else q.right) ⟨i.val % 2 ^ n, Nat.mod_lt _ (Nat.two_pow_pos n)⟩

/-- The lower and the upper half of the numbers below `2 ^ (n + 1)`. -/
def halves (n : ℕ) : Fin (2 ^ n) ⊕ Fin (2 ^ n) ≃ Fin (2 ^ (n + 1)) := finSumFinEquiv.trans (finCongr (by omega))

theorem piece_halves (n : ℕ) (q : PosShare TreeShare) (i : Fin (2 ^ n) ⊕ Fin (2 ^ n)) :
    piece (n + 1) q (halves n i) = i.elim (piece n q.left) (piece n q.right) := by
  rcases i with i | i
  · have h : (halves n (Sum.inl i)).val = i.val := by simp [halves]
    have hi := i.isLt
    simp only [piece, h, hi, if_true, Nat.mod_eq_of_lt hi, Sum.elim_inl]
  · have h : (halves n (Sum.inr i)).val = 2 ^ n + i.val := by simp [halves]; omega
    have hi := i.isLt
    have hn : ¬ (2 ^ n + i.val < 2 ^ n) := by omega
    simp only [piece, h, hn, if_false, Nat.add_mod_left, Nat.mod_eq_of_lt hi, Sum.elim_inr]

theorem pointsTo_pieces {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{piece n q i} f := by
  induction n with
  | zero => intro q; exact (bigSep_univ_of_subsingleton (0 : Fin 1) (Φ := fun i : Fin (2 ^ 0) => (ℓ ↦[I]{piece 0 q i} f : sProp 𝕄))).symm
  | succ n ih =>
    intro q
    rw [BI.Entails.antisymm (pointsTo_share (PosShare.mem_left_op_right q)).1 (pointsTo_share (PosShare.mem_left_op_right q)).2, ih q.left, ih q.right,
      bigSep_univ_equiv (halves n) (fun i : Fin (2 ^ (n + 1)) => (ℓ ↦[I]{piece (n + 1) q i} f : sProp 𝕄)), bigSep_univ_sum]
    simp only [piece_halves, Sum.elim_inl, Sum.elim_inr]; rfl

/-- The share of the sorted list SparseCore `c`'s tile `i` reads through. -/
abbrev coreShare (c : Fin 2) : PosShare TreeShare := piece 1 fullShare c
abbrev tileShare (c : Fin 2) (i : Fin 16) : PosShare TreeShare := piece 4 (coreShare c) i

/-! ## The rows of the result -/

/-- The rows SparseCore `c` writes, and its tile `i`: twelve planes each. -/
def coreRows (c : Fin 2) : Finset S384x147456.Idx := Finset.univ.filter fun x => (x 0).val / 12 % 2 = c.val
def tileRows (c : Fin 2) (i : Fin 16) : Finset S384x147456.Idx := Finset.univ.filter fun x => (x 0).val / 12 = 2 * i.val + c.val

/-- The result, cell by cell, of the sorted keys `si` and values `sv`: the walk over the plane's own stretch of the list. -/
def outOf (z : F .f32) (si : S14155776.Idx → BitVec 32) (sv : S14155776.Idx → F .f32) : S384x147456.Idx → F .f32 := fun x =>
  acc (key si) (val sv z) z ((x 0).val * 36864) 36864 ((x 0).val * 147456 + (x 1).val : ℕ)

end Cert.Proof.Unpool

end
-- ==== Proof.Vectors.lean ====
/-
  The innermost loops of a task: one vector of sixteen positions, and the thirty-six of a block.
-/
module

public import proofs.«01_k».proof.Proof.Setup

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

section Tile

variable (d : Dev nD) (L : grid0.Coords)

abbrev cV (L : grid0.Coords) : Fin τ.nSC := (L 0).castLE hcore0
abbrev jV (L : grid0.Coords) : Fin τ.nSub := (L 1).castLE hsub0

abbrev thr (d : Dev nD) (L : grid0.Coords) : Thread nD τ := V d (cV L) (jV L)

/-- The three scratch buffers at given contents. -/
abbrev cellsAt (f : S73728.Idx → F .f32) : sProp 𝕄 := (cB).view.loc (thr d L) ↦{fullShare} (f : Buf (Elt F) ((cB).view.loc (thr d L)))
abbrev keysAt (f : S9232.Idx → BitVec 32) : sProp 𝕄 := (kB).view.loc (thr d L) ↦{fullShare} (f : Buf (Elt F) ((kB).view.loc (thr d L)))
abbrev valsAt (f : S9216.Idx → F .f32) : sProp 𝕄 := (vB).view.loc (thr d L) ↦{fullShare} (f : Buf (Elt F) ((vB).view.loc (thr d L)))

variable (KK : ℕ → ℤ) (VV : ℕ → F .f32) (z : F .f32)

/-- The cells after the walk has taken `n` positions from `lo`. -/
def Walked (base lo n : ℕ) (f : S73728.Idx → F .f32) : Prop := ∀ j : S73728.Idx, f j = acc KK VV z lo n ((base : ℤ) + (j 0).val)
/-- A buffer of keys holds the list's from position `s`. -/
def HoldsKeys (s : ℕ) (g : S9232.Idx → BitVec 32) : Prop := ∀ j : S9232.Idx, (g j).toInt = KK (s + (j 0).val)
def HoldsVals (s : ℕ) (g : S9216.Idx → F .f32) : Prop := ∀ j : S9216.Idx, g j = VV (s + (j 0).val)

omit [FloatOps F] in
theorem kB_at {off : Fin 1 → ℕ} {n : ℕ} (ho : off = ![n]) (h : ∀ a, off a + S16.size a ≤ S9232.size a) (g : S9232.Idx → BitVec 32) {s : ℕ} (hg : HoldsKeys KK s g) (k : ℕ) (hk : k < 16) :
    ((kB).view.readAt (Elt F) (Rect.unit (s := S9232) off S16.size h).toLoadRect (g : Buf (Elt F) ((kB).view.loc (thr d L))) (lane k hk) : BitVec 32).toInt = KK (s + (n + k)) := by
  subst ho
  simp only [View.readAt_apply, Memref.view_whole, View.read_whole]
  rw [hg]
  congr 2
  simp only [LoadRect.idx_apply]
  show n + 1 * k = _
  omega

omit [FloatOps F] in
theorem vB_at {off : Fin 1 → ℕ} {n : ℕ} (ho : off = ![n]) (h : ∀ a, off a + S16.size a ≤ S9216.size a) (g : S9216.Idx → F .f32) {s : ℕ} (hg : HoldsVals VV s g) (k : ℕ) (hk : k < 16) :
    (vB).view.readAt (Elt F) (Rect.unit (s := S9216) off S16.size h).toLoadRect (g : Buf (Elt F) ((vB).view.loc (thr d L))) (lane k hk) = VV (s + (n + k)) := by
  subst ho
  simp only [View.readAt_apply, Memref.view_whole, View.read_whole]
  rw [hg]
  congr 2
  simp only [LoadRect.idx_apply]
  show n + 1 * k = _
  omega

omit [FloatOps F] in
/-- The cells' buffer as an indexed store takes it. -/
theorem cB_access (f : S73728.Idx → F .f32) :
    (cellsAt d L f : sProp 𝕄) = ((cB).access (.whole S73728)).loc (thr d L) ↦[((cB).access (.whole S73728)).set]{fullShare} (f : Buf (Elt F) ((cB).view.loc (thr d L))) := by
  rw [show ((cB).access (.whole S73728)).set = Finset.univ from Memref.set_access_whole (cc0_scratch0 : Ref sig .scVector)]

variable (t1 : Fin k0_t1_loop.trips) (lo hi lo' hi' : BitVec 32)

theorem base_lt : Words.base L t1 < 100000000 := by
  have := plane_lt L t1; have := half_lt L t1; unfold Words.base; omega

/-- The kernel's check of the sixteen indices passes. -/
theorem chk_ok (v w : Vec F S16 .i32) : k0_chk1 L t1 lo hi lo' hi' (k0_pay8 (F := F) (baseW (taskW L t1)) v w) := by
  intro _ _ a x
  obtain rfl : a = 0 := Subsingleton.elim _ _
  exact index_lt _ _ (base_toInt L t1) (base_lt L t1) v w x

theorem trip5 (h3 : k0_cond3 L t1 lo hi = 1#1) (t4 : Fin k0_t4_loop.trips) (h4 : k0_cond4 L t1 lo' hi' = 1#1) (t5 : Fin (k0_t5_loop t4).trips)
    (p s n : ℕ) (hn : p + n = s + (576 * t4.val + 16 * t5.val)) (g6 : S9232.Idx → BitVec 32) (g7 : S9216.Idx → F .f32) (h6 : HoldsKeys KK s g6) (h7 : HoldsVals VV s g7)
    (f : S73728.Idx → F .f32) (hf : Walked KK VV z (Words.base L t1) p n f) :
    iprop(cellsAt d L f ∗ keysAt d L g6 ∗ valsAt d L g7)
      ⊢ wp frame (wpE (defs₀ (F := F)) 𝒱₀ (thr d L) none) Set.univ
          (k0_t5_body L kV WK vV WK oV WK cB WK kB WK vB WK cc0_scoped0 cc0_scoped1 cc0_scoped2 cc0_scoped3 t1 (baseW (taskW L t1)) lo hi h3 t4 lo' hi' h4 t5 ())
          fun _ => iprop(∃ f', ⌜Walked KK VV z (Words.base L t1) p (n + 16) f'⌝ ∗ cellsAt d L f' ∗ keysAt d L g6 ∗ valsAt d L g7) := by
  unfold k0_t5_body
  iintro ⟨Hc, Hk, Hv⟩
  sl_exec
  unfold trip5.sl.v125
  rw [wp_assume_of _ _ _ _ (chk_ok L t1 lo hi lo' hi' _ _)]
  ihave Hc' := (Entails.of_eq (cB_access (F := F) d L _)) $$ Hc
  iapply (SparseCore.wp_vectorStoreIdx 𝒱₀ (thr d L) none Set.univ (base := (cB : Memref sig .scVector .vmem S73728 .f32))) $$ Hc'; iintro Hc
  ihave Hc' := (Entails.of_eq (cB_access (F := F) d L _).symm) $$ Hc
  sl_step
  iexists _
  isplitr
  swap
  · isplitl [Hc']; · iexact Hc'
    isplitl [Hk]; · iexact Hk
    iexact Hv
  ipureintro
  have hk := vec_lt t4 t5
  rw [Memref.write_access_whole_univ, Memref.read_access_whole]
  refine store_steps _ _ (base_toInt L t1) (base_lt L t1) _ _ KK VV z p n _ f _ ?_ ?_ ?_ hf
  · intro k hk; rw [kB_at (F := F) KK (off7_eq t4 t5) _ g6 h6 k hk]; congr 1; omega
  · intro k hk; rw [kB_at (F := F) KK (off8_eq t4 t5) _ g6 h6 k hk]; congr 1; omega
  · intro k hk; rw [vB_at VV (off9_eq t4 t5) _ g7 h7 k hk]; congr 1; omega

end Tile

end Cert.Proof.Unpool

end
-- ==== Proof.Blocks.lean ====
/-
  A block of 576 positions: its overlap test, and its thirty-six vectors.
-/
module

public import proofs.«01_k».proof.Proof.Vectors

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

section Tile

variable (d : Dev nD) (L : grid0.Coords) (si : S14155776.Idx → BitVec 32) (VV : ℕ → F .f32) (z : F .f32) (t1 : Fin k0_t1_loop.trips) (lo hi : BitVec 32)

omit [FloatOps F] in
theorem Walked.to {KK : ℕ → ℤ} {base p n n' : ℕ} {f : S73728.Idx → F .f32} (h : Walked KK VV z base p n f) (e : n = n') : Walked KK VV z base p n' f := e ▸ h

/-- The least key of the vector at a buffer's offset is at most the first of them, -/
theorem least_at {off : Fin 1 → ℕ} {n : ℕ} (ho : off = ![n]) (h : ∀ a, off a + S16.size a ≤ S9232.size a) (g : S9232.Idx → BitVec 32) {s : ℕ} (hg : HoldsKeys (key si) s g)
    (hp : ∀ a, (![15] : Fin S16.rank → ℕ) a < S16.size a) :
    (extractAt ![15] (k0_pay2 (F := F) ((kB).view.readAt (Elt F) (Rect.unit (s := S9232) off S16.size h).toLoadRect g)) hp : BitVec 32).toInt ≤ key si (s + n) := by
  refine (least_le _ hp).trans ?_
  rw [kB_at (F := F) (key si) ho h g hg 0 (by omega)]
  exact le_refl _

/-- and the greatest at least the last. -/
theorem greatest_at {off : Fin 1 → ℕ} {n : ℕ} (ho : off = ![n]) (h : ∀ a, off a + S16.size a ≤ S9232.size a) (g : S9232.Idx → BitVec 32) {s : ℕ} (hg : HoldsKeys (key si) s g)
    (hp : ∀ a, (![15] : Fin S16.rank → ℕ) a < S16.size a) :
    key si (s + (n + 15)) ≤ (extractAt ![15] (k0_pay3 (F := F) ((kB).view.readAt (Elt F) (Rect.unit (s := S9232) off S16.size h).toLoadRect g)) hp : BitVec 32).toInt := by
  refine le_trans ?_ (le_greatest _ hp)
  rw [kB_at (F := F) (key si) ho h g hg 15 (by omega)]

omit [FloatOps F] in
/-- A stretch outside the half plane leaves the walk where it is. -/
theorem Walked.skip (hs : Ascends si) {p n s k : ℕ} (hn : p + n = s) (hk : 0 < k) (hle : s + k ≤ 14155776) {lo hi : BitVec 32} (hlo : lo.toInt ≤ key si s) (hhi : key si (s + k - 1) ≤ hi.toInt)
    (hc : ¬ ((Words.base L t1 : ℤ) ≤ hi.toInt ∧ lo.toInt < Words.base L t1 + 73728)) {f : S73728.Idx → F .f32}
    (hf : Walked (key si) VV z (Words.base L t1) p n f) : Walked (key si) VV z (Words.base L t1) p (n + k) f := by
  intro j
  rw [acc_skip, hf j]
  intro i h1 h2
  have := outside hs hk hle hlo hhi hc (i - n) (by omega) (j 0).val (j 0).isLt
  rwa [← hn, show p + n + (i - n) = p + i by omega] at this

/-- The invariant of a block's vectors: the walk has taken the positions before the vector. -/
def inv5 (p s m : ℕ) (g6 : S9232.Idx → BitVec 32) (g7 : S9216.Idx → F .f32) (k : ℕ) (_ : Unit) : sProp 𝕄 :=
  iprop(∃ f n, ⌜p + n = s + (m + 16 * k) ∧ Walked (key si) VV z (Words.base L t1) p n f⌝ ∗ cellsAt d L f ∗ keysAt d L g6 ∗ valsAt d L g7)

theorem step5 (h3 : k0_cond3 L t1 lo hi = 1#1) (t4 : Fin k0_t4_loop.trips) {lo' hi' : BitVec 32} (h4 : k0_cond4 L t1 lo' hi' = 1#1) (p s : ℕ)
    (g6 : S9232.Idx → BitVec 32) (g7 : S9216.Idx → F .f32) (h6 : HoldsKeys (key si) s g6) (h7 : HoldsVals VV s g7) (k : Fin (k0_t5_loop t4).trips) (u : Unit) :
    inv5 d L si VV z t1 p s (576 * t4.val) g6 g7 k.val u
      ⊢ wp frame (wpE (defs₀ (F := F)) 𝒱₀ (thr d L) none) Set.univ
          (k0_t5_body L kV WK vV WK oV WK cB WK kB WK vB WK cc0_scoped0 cc0_scoped1 cc0_scoped2 cc0_scoped3 t1 (baseW (taskW L t1)) lo hi h3 t4 lo' hi' h4 k u)
          (inv5 d L si VV z t1 p s (576 * t4.val) g6 g7 (k.val + 1)) := by
  unfold inv5
  iintro ⟨%f, %n, ⟨%hn, %hf⟩, H⟩
  refine BI.Entails.trans (trip5 d L (key si) VV z t1 lo hi lo' hi' h3 t4 h4 k p s n hn g6 g7 h6 h7 f hf) (wp_mono frame _ _ fun _ => ?_)
  iintro ⟨%f', %hf', H⟩
  iexists f', n + 16
  isplitr
  · ipureintro; exact ⟨by omega, hf'⟩
  iexact H

theorem trip4 (hs : Ascends si) (h3 : k0_cond3 L t1 lo hi = 1#1) (t4 : Fin k0_t4_loop.trips)
    (p s n : ℕ) (hn : p + n = s + 576 * t4.val) (hs' : s + 9216 ≤ 14155776) (g6 : S9232.Idx → BitVec 32) (g7 : S9216.Idx → F .f32) (h6 : HoldsKeys (key si) s g6) (h7 : HoldsVals VV s g7)
    (f : S73728.Idx → F .f32) (hf : Walked (key si) VV z (Words.base L t1) p n f) :
    iprop(cellsAt d L f ∗ keysAt d L g6 ∗ valsAt d L g7)
      ⊢ wp frame (wpE (defs₀ (F := F)) 𝒱₀ (thr d L) none) Set.univ
          (k0_t4_body L kV WK vV WK oV WK cB WK kB WK vB WK cc0_scoped0 cc0_scoped1 cc0_scoped2 cc0_scoped3 t1 (baseW (taskW L t1)) lo hi h3 t4 ())
          fun _ => iprop(∃ f', ⌜Walked (key si) VV z (Words.base L t1) p (n + 576) f'⌝ ∗ cellsAt d L f' ∗ keysAt d L g6 ∗ valsAt d L g7) := by
  unfold k0_t4_body
  iintro ⟨Hc, Hk, Hv⟩
  sl_exec
  have ht4 := block_lt t4
  have hlo : (trip4.sl.v78 (F := F) t4 g6 : BitVec 32).toInt ≤ key si (s + 576 * t4.val)   := least_at (F := F) si (k0_off5_eq t4) (k0_off5_inb t4) g6 h6 inpos_S16_p15
  have hhi : key si (s + 576 * t4.val + 576 - 1) ≤ (trip4.sl.v90 (F := F) t4 g6 : BitVec 32).toInt := by
    have h := greatest_at (F := F) si (k0_off6_eq t4) (k0_off6_inb t4) g6 h6 inpos_S16_p15
    rwa [show s + (576 * t4.val + 560 + 15) = s + 576 * t4.val + 576 - 1 by omega] at h
  generalize trip4.sl.v78 (F := F) t4 g6 = lo' at hlo ⊢
  generalize trip4.sl.v90 (F := F) t4 g6 = hi' at hhi ⊢
  rcases Classical.em (k0_cond4 L t1 lo' hi' = 1#1) with hc | hc
  · sl_exec
    sl_for (inv5 d L si VV z t1 p s (576 * t4.val) g6 g7) $$ [Hc Hk Hv]
    case region =>
      intro k _
      exact step5 d L si VV z t1 lo hi h3 t4 hc p s g6 g7 h6 h7 k ()
    · unfold inv5
      iexists f, n
      isplitr; · ipureintro; exact ⟨hn, hf⟩
      isplitl [Hc]; · iexact Hc
      isplitl [Hk]; · iexact Hk
      iexact Hv
    iintro %_ HI
    unfold inv5
    icases HI with ⟨%f', %m, ⟨%hm, %hf'⟩, Hc, Hk, Hv⟩
    sl_exec
    sl_step
    iexists f'
    isplitr
    · ipureintro
      rw [show Scf.trips (k0_t5_loop t4).lb (k0_t5_loop t4).ub (k0_t5_loop t4).st = 36 from trips5 t4] at hm
      exact hf'.to _ _ (by omega)
    isplitl [Hc]; · iexact Hc
    isplitl [Hk]; · iexact Hk
    iexact Hv
  · sl_exec
    sl_step
    iexists f
    isplitr
    · ipureintro
      exact hf.skip L si VV z t1 hs hn (by omega) (by omega) hlo hhi (fun h => hc ((cond4_iff L t1 lo' hi').mpr h))
    isplitl [Hc]; · iexact Hc
    isplitl [Hk]; · iexact Hk
    iexact Hv

end Tile

end Cert.Proof.Unpool

end
-- ==== Proof.Chunks.lean ====
/-
  A chunk of 9216 positions: the fetches of its keys and values, its overlap test, and its sixteen blocks.
-/
module

public import proofs.«01_k».proof.Proof.Blocks

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

section Tile

variable (d : Dev nD) (L : grid0.Coords) (si : S14155776.Idx → BitVec 32) (sv : S14155776.Idx → F .f32) (z : F .f32) (q : PosShare TreeShare)
  (t1 : Fin k0_t1_loop.trips) (O : CellTallies nD τ sig (HIx 1)) (W : Waits sig (HIx 1))

/-- The sorted list as a task reads it, and a semaphore's cell at zero. -/
abbrev listKeys : sProp 𝕄 := (kV).view.loc (thr d L) ↦{q} (si : Buf (Elt F) ((kV).view.loc (thr d L)))
abbrev listVals : sProp 𝕄 := (vV).view.loc (thr d L) ↦{q} (sv : Buf (Elt F) ((vV).view.loc (thr d L)))
abbrev semAt (s : DmaSems sig S_) : sProp 𝕄 := semVal ((thr d L, .dma s.sem) : GSem nD τ sig) 0

/-- What a task owes, its waits so far counted as its own. -/
abbrev owing : sProp 𝕄 := iprop(∃ W', ⌜∀ p ∈ W', p ∈ W ∨ p.2 = none⌝ ∗ owes (thr d L) O W')

/-- The invariant of a chunk's blocks. -/
def inv4 (p s : ℕ) (g6 : S9232.Idx → BitVec 32) (g7 : S9216.Idx → F .f32) (k : ℕ) (_ : Unit) : sProp 𝕄 :=
  iprop(∃ f n, ⌜p + n = s + 576 * k ∧ Walked (key si) (val sv z) z (Words.base L t1) p n f⌝ ∗ cellsAt d L f ∗ keysAt d L g6 ∗ valsAt d L g7)

theorem step4 (hs : Ascends si) {lo hi : BitVec 32} (h3 : k0_cond3 L t1 lo hi = 1#1) (p s : ℕ) (hs' : s + 9216 ≤ 14155776)
    (g6 : S9232.Idx → BitVec 32) (g7 : S9216.Idx → F .f32) (h6 : HoldsKeys (key si) s g6) (h7 : HoldsVals (val sv z) s g7) (k : Fin k0_t4_loop.trips) (u : Unit) :
    inv4 d L si sv z t1 p s g6 g7 k.val u
      ⊢ wp frame (wpE (defs₀ (F := F)) 𝒱₀ (thr d L) none) Set.univ
          (k0_t4_body L kV WK vV WK oV WK cB WK kB WK vB WK cc0_scoped0 cc0_scoped1 cc0_scoped2 cc0_scoped3 t1 (baseW (taskW L t1)) lo hi h3 k u)
          (inv4 d L si sv z t1 p s g6 g7 (k.val + 1)) := by
  unfold inv4
  iintro ⟨%f, %n, ⟨%hn, %hf⟩, H⟩
  refine BI.Entails.trans (trip4 d L si (val sv z) z t1 lo hi hs h3 k p s n hn hs' g6 g7 h6 h7 f hf) (wp_mono frame _ _ fun _ => ?_)
  iintro ⟨%f', %hf', H⟩
  iexists f', n + 576
  isplitr
  · ipureintro; exact ⟨by omega, hf'⟩
  iexact H

omit [FloatOps F] in
/-- A stretch of the list as a slice of it reads, by position. -/
theorem slice_key {n : ℕ} {off : Fin S14155776.rank → ℕ} {s : ℕ} (ho : off = ![s]) (sz : Fin S14155776.rank → ℕ) (h : ∀ a, off a + sz a ≤ S14155776.size a) (hz : s + n ≤ 14155776)
    (j : (Rect.unit (s := S14155776) off sz h).shape.Idx) (hj : (j 0).val < n) :
    (((kV).slice (Rect.unit (s := S14155776) off sz h) (fun _ => rfl)).view.read (Elt F) (si : Buf (Elt F) ((kV).view.loc (thr d L))) j : BitVec 32).toInt = key si (s + (j 0).val) := by
  subst ho
  unfold key
  rw [dif_pos (by omega)]
  refine congrArg (fun x => (si x).toInt) (funext fun a => ?_)
  obtain rfl : a = (0 : Fin 1) := Subsingleton.elim (α := Fin 1) _ _
  apply Fin.ext
  show s + 1 * (j 0).val = _
  rw [Nat.one_mul]
  rfl

omit [FloatOps F] in
theorem slice_val {off : Fin S14155776.rank → ℕ} {s n : ℕ} (ho : off = ![s]) (sz : Fin S14155776.rank → ℕ) (h : ∀ a, off a + sz a ≤ S14155776.size a) (hz : s + n ≤ 14155776)
    (j : (Rect.unit (s := S14155776) off sz h).shape.Idx) (hj : (j 0).val < n) :
    ((vV).slice (Rect.unit (s := S14155776) off sz h) (fun _ => rfl)).view.read (Elt F) (sv : Buf (Elt F) ((vV).view.loc (thr d L))) j = val sv z (s + (j 0).val) := by
  subst ho
  unfold val
  rw [dif_pos (by omega)]
  refine congrArg sv (funext fun a => ?_)
  obtain rfl : a = (0 : Fin 1) := Subsingleton.elim (α := Fin 1) _ _
  apply Fin.ext
  show s + 1 * (j 0).val = _
  rw [Nat.one_mul]
  rfl

omit [FloatOps F] in
/-- A chunk's values as copied. -/
theorem vals_whole (k : Fin k0_t3_loop.trips) (g7 : S9216.Idx → F .f32) :
    HoldsVals (val sv z) (start L t1 k) (View.write (Elt F) (vB).view g7
      (((vV).slice (Rect.unit (s := S14155776) (k0_off4 L t1 k) S9216.size (k0_off4_inb L t1 k)) (fun _ => rfl)).view.read (Elt F) (sv : Buf (Elt F) ((vV).view.loc (thr d L)))) Finset.univ) := by
  intro j
  refine (congrFun (View.write_whole_univ cc0_scratch2 _ _) j).trans ?_
  exact slice_val sv z (off4_eq L t1 k) _ _ (start_le L t1 k) j (j 0).isLt

omit [FloatOps F] in
/-- A chunk's keys copied with the sixteen that follow it, -/
theorem keys_whole (k : Fin k0_t3_loop.trips) (h2 : k0_cond2 L t1 k = 1#1) (g6 : S9232.Idx → BitVec 32) :
    HoldsKeys (key si) (start L t1 k) (View.write (Elt F) (kB).view g6
      (((kV).slice (Rect.unit (s := S14155776) (k0_off3 L t1 k) S9232.size (k0_off3_inb L t1 k h2)) (fun _ => rfl)).view.read (Elt F) (si : Buf (Elt F) ((kV).view.loc (thr d L)))) Finset.univ) := by
  have hlt := (cond2_iff L t1 k).mp h2
  have hm : start L t1 k % 9216 = 0 := by unfold start; omega
  intro j
  refine (congrArg BitVec.toInt (congrFun (View.write_whole_univ (Val := Elt F) cc0_scratch1 _ _) j)).trans ?_
  exact slice_key si (n := 9232) (off3_eq L t1 k) _ _ (by omega) j (j 0).isLt

omit [FloatOps F] in
/-- and the last chunk's, followed by sixteen words no key equals. -/
theorem keys_last (k : Fin k0_t3_loop.trips) (h1 : k0_cond1 L t1 k = 1#1) (g6 : S9232.Idx → BitVec 32) :
    HoldsKeys (key si) (start L t1 k) (((kB).view.slice (Rect.unit (s := S9232) ![9216] S16.size inb_S9232_S16_9216)).write (Elt F)
      (((kB).slice (Rect.unit (s := S9232) ![0] S9216.size inb_S9232_S9216_0) (fun _ => rfl)).view.write (Elt F) g6
        (((kV).slice (Rect.unit (s := S14155776) (k0_off2 L t1 k) S9216.size (k0_off2_inb L t1 k h1)) (fun _ => rfl)).view.read (Elt F) (si : Buf (Elt F) ((kV).view.loc (thr d L)))) Finset.univ)
      (k0_pay1 : Vec F S16 .i32) Finset.univ) := by
  have hst := start_le L t1 k
  have hge := (cond1_iff L t1 k).mp h1
  intro j
  have hj : (j 0).val < 9232 := (j 0).isLt
  rcases Nat.lt_or_ge (j 0).val 9216 with hlt | hle
  · let x : S9216.Idx := Shape.ofLane (d := S9216.size) ⟨(j 0).val, hlt⟩
    have hx : ((kB).slice (Rect.unit (s := S9232) ![0] S9216.size inb_S9232_S9216_0) (fun _ => rfl)).view.emb x = j := by
      funext a
      obtain rfl : a = (0 : Fin 1) := Subsingleton.elim (α := Fin 1) _ _
      apply Fin.ext
      show 0 + 1 * (j 0).val = _
      omega
    rw [View.write_of_not_mem]
    · rw [← hx, View.write_emb_of_mem _ _ (Finset.mem_univ x), hx]
      exact slice_key si (n := 9216) (off2_eq L t1 k) _ _ hst x hlt
    · intro h
      obtain ⟨y, -, hy⟩ := Finset.mem_map.mp h
      have := congrArg (fun x => (x 0).val) hy
      have e : 9216 + 1 * (y 0).val = (j 0).val := this
      omega
  · let x : S16.Idx := Shape.ofLane (d := S16.size) ⟨(j 0).val - 9216, by show _ < 16; omega⟩
    have hx : ((kB).view.slice (Rect.unit (s := S9232) ![9216] S16.size inb_S9232_S16_9216)).emb x = j := by
      funext a
      obtain rfl : a = (0 : Fin 1) := Subsingleton.elim (α := Fin 1) _ _
      apply Fin.ext
      show 9216 + 1 * ((j 0).val - 9216) = _
      omega
    rw [← hx, View.write_emb_of_mem _ _ (Finset.mem_univ x), hx]
    unfold key
    rw [dif_neg (by omega)]
    rfl

omit [FloatOps F] in
/-- One more wait is still the task's own. -/
theorem waited {W W' : Waits sig (HIx 1)} (h : ∀ p ∈ W', p ∈ W ∨ p.2 = none) {s : SemLoc sig} : ∀ p ∈ insert (s, (default : HIx 1)) W', p ∈ W ∨ p.2 = none := by
  intro p hp
  rcases Finset.mem_insert.mp hp with hp | hp
  · subst hp; exact Or.inr rfl
  · exact h p hp

/-- A chunk whose keys are in the buffer: its values are fetched and its blocks walked when its keys overlap the half plane. -/
theorem rest3 (hs : Ascends si) (k : Fin k0_t3_loop.trips) (lo hi : BitVec 32) (g6 : S9232.Idx → BitVec 32) (h6 : HoldsKeys (key si) (start L t1 k) g6)
    (hlo : lo.toInt ≤ key si (start L t1 k)) (hhi : key si (start L t1 k + 9216 - 1) ≤ hi.toInt)
    (g7 : S9216.Idx → F .f32) (n : ℕ) (hn : Words.plane L t1 * 36864 + n = start L t1 k)
    (f : S73728.Idx → F .f32) (hf : Walked (key si) (val sv z) z (Words.base L t1) (Words.plane L t1 * 36864) n f) :
    iprop(Transfers.MayWaits (thr d L) (default : HIx 1) O ∗ listVals d L sv q ∗ cellsAt d L f ∗ keysAt d L g6 ∗ valsAt d L g7 ∗ semAt d L cc0_scoped2 ∗ owing d L O W)
      ⊢ wp frame (wpE (defs₀ (F := F)) 𝒱₀ (thr d L) none) Set.univ
          (if h3 : k0_cond3 L t1 lo hi = 1#1 then do
            Prog.lift (.enqueueDma ((vV).slice (Rect.unit (s := S14155776) (k0_off4 L t1 k) S9216.size (k0_off4_inb L t1 k)) (fun _ => rfl)) (.here vB) (.dma cc0_scoped2.sem) (View.wordExact_bits rfl) (Memref.IsWhole.wordExact WK) ⟨Or.inl rfl, trivial⟩)
            Prog.lift (.waitDma2 cc0_scoped2.sem ((vV).slice (Rect.unit (s := S14155776) (k0_off4 L t1 k) S9216.size (k0_off4_inb L t1 k)) (fun _ => rfl)) vB (View.wordExact_bits rfl) (Memref.IsWhole.wordExact WK))
            Scf.Loop.for k0_t4_loop k0_t4_ok ⟨⟩ (k0_t4_body L kV WK vV WK oV WK cB WK kB WK vB WK cc0_scoped0 cc0_scoped1 cc0_scoped2 cc0_scoped3 t1 (baseW (taskW L t1)) lo hi h3)
            pure ⟨⟩
          else (pure ⟨⟩ : Prog (TpuEff nD τ sig (Elt F) Λ₀ (.scVector ((L 0).castLE hcore0) ((L 1).castLE hsub0))) PUnit))
          fun _ => iprop(listVals d L sv q ∗ (∃ f', ⌜Walked (key si) (val sv z) z (Words.base L t1) (Words.plane L t1 * 36864) (n + 9216) f'⌝ ∗ cellsAt d L f')
            ∗ keysAt d L g6 ∗ (∃ g, valsAt d L g) ∗ semAt d L cc0_scoped2 ∗ owing d L O W) := by
  have hst := start_le L t1 k
  iintro ⟨#Hmw, Hsv, Hc, Hk, Hv, Hm2, %W', %hW', HO⟩
  rcases Classical.em (k0_cond3 L t1 lo hi = 1#1) with hc | hc
  · sl_exec (disch := exact View.amount_pos _ _ (show 0 < S9216.numel by decide))
    have h7 : HoldsVals (val sv z) (start L t1 k) (View.write (Elt F) (vB).view g7 (rest3.sl.dma0 L sv t1 k) Finset.univ) := vals_whole L sv z t1 k g7
    generalize View.write (Elt F) (vB).view g7 (rest3.sl.dma0 L sv t1 k) Finset.univ = g7' at h7 ⊢
    sl_for (inv4 d L si sv z t1 (Words.plane L t1 * 36864) (start L t1 k) g6 g7') $$ [Hc Hk Hv]
    case region =>
      intro t4 _
      exact step4 d L si sv z t1 hs hc _ _ hst g6 g7' h6 h7 t4 ()
    · unfold inv4
      iexists f, n
      isplitr
      · ipureintro; exact ⟨by omega, hf⟩
      isplitl [Hc]; · iexact Hc
      isplitl [Hk]; · iexact Hk
      iexact Hv
    iintro %_ HI
    unfold inv4
    icases HI with ⟨%f', %m, ⟨%hm, %hf'⟩, Hc, Hk, Hv⟩
    sl_exec
    sl_step
    isplitl [Hsv]; · iexact Hsv
    isplitl [Hc]
    · iexists f'
      isplitr
      · ipureintro
        rw [show Scf.trips k0_t4_loop.lb k0_t4_loop.ub k0_t4_loop.st = 16 from trips4] at hm
        exact hf'.to _ _ (by omega)
      iexact Hc
    isplitl [Hk]; · iexact Hk
    isplitl [Hv]; · iexists g7'; iexact Hv
    isplitl [Hm2]; · iexact Hm2
    iexists (insert (SemLoc.dma cc0_scoped2.sem, (default : HIx 1)) W')
    isplitr
    · ipureintro
      exact waited hW'
    iexact HO
  · sl_exec
    sl_step
    isplitl [Hsv]; · iexact Hsv
    isplitl [Hc]
    · iexists f
      isplitr
      · ipureintro
        exact hf.skip L si (val sv z) z t1 hs hn (by omega) (by omega) hlo hhi (fun h => hc ((cond3_iff L t1 lo hi).mpr h))
      iexact Hc
    isplitl [Hk]; · iexact Hk
    isplitl [Hv]; · iexists g7; iexact Hv
    isplitl [Hm2]; · iexact Hm2
    iexists W'
    isplitr
    · ipureintro; exact hW'
    iexact HO

/-- The overlap test of a chunk whose keys are in the buffer. -/
theorem tail3 (hs : Ascends si) (k : Fin k0_t3_loop.trips) (g6 : S9232.Idx → BitVec 32) (h6 : HoldsKeys (key si) (start L t1 k) g6)
    (g7 : S9216.Idx → F .f32) (n : ℕ) (hn : Words.plane L t1 * 36864 + n = start L t1 k)
    (f : S73728.Idx → F .f32) (hf : Walked (key si) (val sv z) z (Words.base L t1) (Words.plane L t1 * 36864) n f) :
    iprop(Transfers.MayWaits (thr d L) (default : HIx 1) O ∗ listVals d L sv q ∗ cellsAt d L f ∗ keysAt d L g6 ∗ valsAt d L g7 ∗ semAt d L cc0_scoped2 ∗ owing d L O W)
      ⊢ wp frame (wpE (defs₀ (F := F)) 𝒱₀ (thr d L) none) Set.univ
          (do
            let w : Vec F S16 .i32 ← Prog.lift (.load kB (Rect.unit (s := S9232) ![0] S16.size inb_S9232_S16_0).toLoadRect (View.loadsAt_vmem h_S16))
            let lo : BitVec 32 := extractAt ![15] (k0_pay2 w) inpos_S16_p15
            let w' : Vec F S16 .i32 ← Prog.lift (.load kB (Rect.unit (s := S9232) ![9200] S16.size inb_S9232_S16_9200).toLoadRect (View.loadsAt_vmem h_S16))
            let hi : BitVec 32 := extractAt ![15] (k0_pay3 w') inpos_S16_p15
            (if h3 : k0_cond3 L t1 lo hi = 1#1 then do
              Prog.lift (.enqueueDma ((vV).slice (Rect.unit (s := S14155776) (k0_off4 L t1 k) S9216.size (k0_off4_inb L t1 k)) (fun _ => rfl)) (.here vB) (.dma cc0_scoped2.sem) (View.wordExact_bits rfl) (Memref.IsWhole.wordExact WK) ⟨Or.inl rfl, trivial⟩)
              Prog.lift (.waitDma2 cc0_scoped2.sem ((vV).slice (Rect.unit (s := S14155776) (k0_off4 L t1 k) S9216.size (k0_off4_inb L t1 k)) (fun _ => rfl)) vB (View.wordExact_bits rfl) (Memref.IsWhole.wordExact WK))
              Scf.Loop.for k0_t4_loop k0_t4_ok ⟨⟩ (k0_t4_body L kV WK vV WK oV WK cB WK kB WK vB WK cc0_scoped0 cc0_scoped1 cc0_scoped2 cc0_scoped3 t1 (baseW (taskW L t1)) lo hi h3)
              pure ⟨⟩
            else (pure ⟨⟩ : Prog (TpuEff nD τ sig (Elt F) Λ₀ (.scVector ((L 0).castLE hcore0) ((L 1).castLE hsub0))) PUnit)))
          fun _ => iprop(listVals d L sv q ∗ (∃ f', ⌜Walked (key si) (val sv z) z (Words.base L t1) (Words.plane L t1 * 36864) (n + 9216) f'⌝ ∗ cellsAt d L f')
            ∗ keysAt d L g6 ∗ (∃ g, valsAt d L g) ∗ semAt d L cc0_scoped2 ∗ owing d L O W) := by
  iintro ⟨#Hmw, Hsv, Hc, Hk, Hv, Hm2, HO⟩
  sl_exec
  have hlo : (tail3.sl.lo (F := F) g6 : BitVec 32).toInt ≤ key si (start L t1 k) := by
    have h := least_at (F := F) (n := 0) si rfl inb_S9232_S16_0 _ h6 inpos_S16_p15
    rwa [Nat.add_zero] at h
  have hhi : key si (start L t1 k + 9216 - 1) ≤ (tail3.sl.hi (F := F) g6 : BitVec 32).toInt := by
    have h := greatest_at (F := F) (n := 9200) si rfl inb_S9232_S16_9200 _ h6 inpos_S16_p15
    rwa [show start L t1 k + (9200 + 15) = start L t1 k + 9216 - 1 by omega] at h
  generalize tail3.sl.lo (F := F) g6 = lo at hlo ⊢
  generalize tail3.sl.hi (F := F) g6 = hi at hhi ⊢
  iapply (rest3 d L si sv z q t1 O W hs k lo hi g6 h6 hlo hhi g7 n hn f hf)
  isplitr; · iexact Hmw
  isplitl [Hsv]; · iexact Hsv
  isplitl [Hc]; · iexact Hc
  isplitl [Hk]; · iexact Hk
  isplitl [Hv]; · iexact Hv
  isplitl [Hm2]; · iexact Hm2
  iexact HO

/-- The invariant of a task's chunks. -/
def inv3 (k : ℕ) (_ : Unit) : sProp 𝕄 :=
  iprop(Transfers.MayWaits (thr d L) (default : HIx 1) O ∗ listKeys d L si q ∗ listVals d L sv q
    ∗ (∃ f n, ⌜n = 9216 * k ∧ Walked (key si) (val sv z) z (Words.base L t1) (Words.plane L t1 * 36864) n f⌝ ∗ cellsAt d L f)
    ∗ (∃ g, keysAt d L g) ∗ (∃ g, valsAt d L g) ∗ semAt d L cc0_scoped0 ∗ semAt d L cc0_scoped1 ∗ semAt d L cc0_scoped2 ∗ owing d L O W)

theorem step3 (hs : Ascends si) (k : Fin k0_t3_loop.trips) (u : Unit) :
    inv3 d L si sv z q t1 O W k.val u
      ⊢ wp frame (wpE (defs₀ (F := F)) 𝒱₀ (thr d L) none) Set.univ
          (k0_t3_body L kV WK vV WK oV WK cB WK kB WK vB WK cc0_scoped0 cc0_scoped1 cc0_scoped2 cc0_scoped3 t1 (baseW (taskW L t1)) k u)
          (inv3 d L si sv z q t1 O W (k.val + 1)) := by
  unfold inv3 k0_t3_body
  iintro ⟨#Hmw, Hsk, Hsv, ⟨%f, %n, ⟨%hn, %hf⟩, Hc⟩, ⟨%g6, Hk⟩, ⟨%g7, Hv⟩, Hm0, Hm1, Hm2, %W', %hW', HO⟩
  have hk := chunk_lt k
  have hst := start_le L t1 k
  have hn' : Words.plane L t1 * 36864 + n = start L t1 k := by unfold start; omega
  rcases Classical.em (k0_cond1 L t1 k = 1#1) with h1 | h1
  · have h2 : ¬ k0_cond2 L t1 k = 1#1 := fun h => (cond2_iff L t1 k).mp h ((cond1_iff L t1 k).mp h1)
    set_option sl_exec.stopBefore "k0_cond2" in
    sl_exec (disch := exact View.amount_pos _ _ (show 0 < S9216.numel by decide))
    have h6 : HoldsKeys (key si) (start L t1 k) ((kB).view.writes (Elt F) g6 [⟨Rect.unit (s := S9232) ![9216] S16.size inb_S9232_S16_9216, k0_pay1⟩, ⟨Rect.unit (s := S9232) ![0] S9216.size inb_S9232_S9216_0, step3.sl.dma0 L si t1 k h1⟩]) := keys_last L si t1 k h1 g6
    generalize (kB).view.writes (Elt F) g6 [⟨Rect.unit (s := S9232) ![9216] S16.size inb_S9232_S16_9216, k0_pay1⟩, ⟨Rect.unit (s := S9232) ![0] S9216.size inb_S9232_S9216_0, step3.sl.dma0 L si t1 k h1⟩] = g6' at h6 ⊢
    rw [dif_neg h2]
    iapply (wp_wand_r Idealize.ShloMosaic.frame (wpE (defs₀ (F := F)) 𝒱₀ (thr d L) none) Set.univ)
    isplitl [Hsv Hc Hk Hv Hm2 HO]
    · iapply (tail3 d L si sv z q t1 O W hs k g6' h6 g7 n hn' f hf)
      isplitr; · iexact Hmw
      isplitl [Hsv]; · iexact Hsv
      isplitl [Hc]; · iexact Hc
      isplitl [Hk]; · iexact Hk
      isplitl [Hv]; · iexact Hv
      isplitl [Hm2]; · iexact Hm2
      iexists (insert (SemLoc.dma cc0_scoped0.sem, (default : HIx 1)) W')
      isplitr
      · ipureintro
        exact waited hW'
      iexact HO
    iintro %_ ⟨Hsv, ⟨%f', %hf', Hc⟩, Hk, Hv, Hm2, HO⟩
    isplitr; · iexact Hmw
    isplitl [Hsk]; · iexact Hsk
    isplitl [Hsv]; · iexact Hsv
    isplitl [Hc]
    · iexists f', n + 9216
      isplitr
      · ipureintro; exact ⟨by omega, hf'⟩
      iexact Hc
    isplitl [Hk]; · iexists g6'; iexact Hk
    isplitl [Hv]; · iexact Hv
    isplitl [Hm0]; · iexact Hm0
    isplitl [Hm1]; · iexact Hm1
    isplitl [Hm2]; · iexact Hm2
    iexact HO
  · have h2 : k0_cond2 L t1 k = 1#1 := (cond2_iff L t1 k).mpr fun h => h1 ((cond1_iff L t1 k).mpr h)
    set_option sl_exec.stopBefore "k0_cond2" in
    sl_exec
    rw [dif_pos h2]
    set_option sl_exec.maxSteps 2 in
    sl_exec (disch := exact View.amount_pos _ _ (show 0 < S9232.numel by decide))
    have h6 : HoldsKeys (key si) (start L t1 k) (View.write (Elt F) (kB).view g6 (step3.sl.dma0_1 L si t1 k h2) Finset.univ) := keys_whole L si t1 k h2 g6
    generalize View.write (Elt F) (kB).view g6 (step3.sl.dma0_1 L si t1 k h2) Finset.univ = g6' at h6 ⊢
    iapply (wp_wand_r Idealize.ShloMosaic.frame (wpE (defs₀ (F := F)) 𝒱₀ (thr d L) none) Set.univ)
    isplitl [Hsv Hc Hk Hv Hm2 HO]
    · iapply (tail3 d L si sv z q t1 O W hs k g6' h6 g7 n hn' f hf)
      isplitr; · iexact Hmw
      isplitl [Hsv]; · iexact Hsv
      isplitl [Hc]; · iexact Hc
      isplitl [Hk]; · iexact Hk
      isplitl [Hv]; · iexact Hv
      isplitl [Hm2]; · iexact Hm2
      iexists (insert (SemLoc.dma cc0_scoped1.sem, (default : HIx 1)) W')
      isplitr
      · ipureintro
        exact waited hW'
      iexact HO
    iintro %_ ⟨Hsv, ⟨%f', %hf', Hc⟩, Hk, Hv, Hm2, HO⟩
    isplitr; · iexact Hmw
    isplitl [Hsk]; · iexact Hsk
    isplitl [Hsv]; · iexact Hsv
    isplitl [Hc]
    · iexists f', n + 9216
      isplitr
      · ipureintro; exact ⟨by omega, hf'⟩
      iexact Hc
    isplitl [Hk]; · iexists g6'; iexact Hk
    isplitl [Hv]; · iexact Hv
    isplitl [Hm0]; · iexact Hm0
    isplitl [Hm1]; · iexact Hm1
    isplitl [Hm2]; · iexact Hm2
    iexact HO

end Tile

end Cert.Proof.Unpool

end
-- ==== Proof.Task.lean ====
/-
  A task: its half plane cleared, its plane's stretch of the list walked chunk by chunk, the half plane copied out; and a tile's twenty-four tasks.
-/
module

public import proofs.«01_k».proof.Proof.Chunks

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

section Tile

variable (d : Dev nD) (L : grid0.Coords) (si : S14155776.Idx → BitVec 32) (sv : S14155776.Idx → F .f32) (q : PosShare TreeShare)
  (t1 : Fin k0_t1_loop.trips) (O : CellTallies nD τ sig (HIx 1)) (W : Waits sig (HIx 1))

/-- What a cleared cell holds. -/
abbrev zero : F .f32 := Scalar.ofBits .f32 0x00000000#32

/-! ## The clearing -/

/-- The cells cleared so far. -/
def inv2 (k : ℕ) (_ : Unit) : sProp 𝕄 := iprop(∃ f, ⌜∀ j : S73728.Idx, (j 0).val < 16 * k → f j = zero⌝ ∗ cellsAt d L f)

omit [FloatOps F] in
theorem cleared {k : ℕ} {off : Fin S73728.rank → ℕ} (ho : off = ![16 * k]) (h : ∀ a, off a + S16.size a ≤ S73728.size a) (z : F .f32) (w : Vec F S16 .f32) (hw : ∀ x, w x = z)
    (f : S73728.Idx → F .f32) (hf : ∀ j : S73728.Idx, (j 0).val < 16 * k → f j = z) (j : S73728.Idx) (hj : (j 0).val < 16 * (k + 1)) :
    ((cB).view.slice (Rect.unit (s := S73728) off S16.size h)).write (Elt F) f w Finset.univ j = z := by
  subst ho
  rcases Nat.lt_or_ge (j 0).val (16 * k) with hlt | hle
  · rw [View.write_of_not_mem]
    · exact hf j hlt
    · intro hm
      obtain ⟨y, -, hy⟩ := Finset.mem_map.mp hm
      have e : 16 * k + 1 * (y 0).val = (j 0).val := congrArg (fun x : S73728.Idx => (x 0).val) hy
      omega
  · have hx : ((cB).view.slice (Rect.unit (s := S73728) ![16 * k] S16.size h)).emb (lane ((j 0).val - 16 * k) (by omega)) = j := by
      funext a
      obtain rfl : a = (0 : Fin 1) := Subsingleton.elim (α := Fin 1) _ _
      apply Fin.ext
      show 16 * k + 1 * ((j 0).val - 16 * k) = _
      omega
    rw [← hx, View.write_emb_of_mem _ _ (Finset.mem_univ _)]
    exact hw _

theorem step2 (v1 c0 c1 : BitVec 32) (k : Fin k0_t2_loop.trips) (u : Unit) :
    inv2 (F := F) d L k.val u
      ⊢ wp frame (wpE (defs₀ (F := F)) 𝒱₀ (thr d L) none) Set.univ
          (k0_t2_body L kV WK vV WK oV WK cB WK kB WK vB WK cc0_scoped0 cc0_scoped1 cc0_scoped2 cc0_scoped3 v1 c0 c1 t1 k u)
          (inv2 (F := F) d L (k.val + 1)) := by
  unfold inv2 k0_t2_body
  iintro ⟨%f, %hf, Hc⟩
  sl_exec
  sl_step
  iexists _
  isplitr
  swap; · iexact Hc
  ipureintro
  exact cleared (k0_off1_eq k) (k0_off1_inb k) zero k0_pay12 (fun _ => rfl) f hf

/-! ## The copy to the result -/

/-- Task `t1`'s half plane of the result, as the copy addresses it. -/
abbrev outK : Memref sig .scVector .hbm S73728 .f32 :=
  ((oV).slice (Rect.unit (s := S384x147456) (k0_off13 L t1) S1x73728.size (k0_off13_inb L t1)) (fun _ => rfl)).squeeze S73728 squeezes_S1x73728_S73728

theorem outK_at (j : S73728.Idx) : ((((outK L t1).view.emb j : S384x147456.Idx)) 0).val = Words.plane L t1 ∧ (((outK L t1).view.emb j : S384x147456.Idx) 1).val = Words.half L t1 * 73728 + (j 0).val := by
  have e : Shape.reshapeEquiv (s := S1x73728) (s' := S73728) squeezes_S1x73728_S73728.numel_eq j = Fin.cons ⟨0, Nat.one_pos⟩ j := Shape.reshapeEquiv_cons_one _ j
  have h0 : k0_off13 L t1 0 = Words.plane L t1 := congrFun (off13_eq L t1) 0
  have h1 : k0_off13 L t1 1 = Words.half L t1 * 73728 := congrFun (off13_eq L t1) 1
  constructor
  · show k0_off13 L t1 0 + 1 * ((Shape.reshapeEquiv (s := S1x73728) (s' := S73728) squeezes_S1x73728_S73728.numel_eq j) 0).val = _
    rw [e, h0]; rfl
  · show k0_off13 L t1 1 + 1 * ((Shape.reshapeEquiv (s := S1x73728) (s' := S73728) squeezes_S1x73728_S73728.numel_eq j) 1).val = _
    rw [e, h1, Nat.one_mul]; rfl

theorem mem_outK (x : S384x147456.Idx) : x ∈ (outK L t1).view.set ↔ 2 * (x 0).val + (x 1).val / 73728 = task L t1 := by
  have hx1 : (x 1).val < 147456 := (x 1).isLt
  constructor
  · intro h
    obtain ⟨j, -, rfl⟩ := Finset.mem_map.mp h
    have hj : (j 0).val < 73728 := (j 0).isLt
    obtain ⟨e0, e1⟩ := outK_at L t1 j
    have := Words.half_lt L t1
    rw [e0, e1]; unfold Words.plane Words.half at *; omega
  · intro h
    refine Finset.mem_map.mpr ⟨Shape.ofLane (d := S73728.size) ⟨(x 1).val % 73728, Nat.mod_lt _ (by decide)⟩, Finset.mem_univ _, ?_⟩
    obtain ⟨e0, e1⟩ := outK_at L t1 (Shape.ofLane (d := S73728.size) ⟨(x 1).val % 73728, Nat.mod_lt _ (by decide)⟩)
    funext a
    apply Fin.ext
    match a with
    | 0 => refine e0.trans ?_; unfold Words.plane; omega
    | 1 => refine e1.trans ?_; show Words.half L t1 * 73728 + (x 1).val % 73728 = _; unfold Words.half; omega

/-- The tile's rows of the result. -/
abbrev ownRows : Finset S384x147456.Idx := tileRows (L 0) (L 1)

theorem outK_subset : (outK L t1).view.set ⊆ ownRows L := by
  intro x hx
  have h := (mem_outK L t1 x).mp hx
  have := trip_lt t1
  unfold ownRows tileRows
  simp only [Finset.mem_filter, Finset.mem_univ, true_and]
  unfold task at h
  have h1 : (x 1).val < 147456 := (x 1).isLt
  omega

/-- The result's rows, as a tile's tasks address them. -/
abbrev rowsAt (I : Finset S384x147456.Idx) (f : S384x147456.Idx → F .f32) : sProp 𝕄 := (oV).view.loc (thr d L) ↦[I]{fullShare} (f : Buf (Elt F) ((oV).view.loc (thr d L)))

/-- The half planes of the tile's first `k` tasks hold the result. -/
def Done (k : ℕ) (f : S384x147456.Idx → F .f32) : Prop :=
  ∀ x ∈ ownRows L, 2 * (x 0).val + (x 1).val / 73728 < ((L 1).val * 2 + (L 0).val) * 24 + k → f x = outOf zero si sv x

omit [FloatOps F] in
/-- Task `t1`'s half plane written, the first `t1 + 1` do. -/
theorem done_step [FloatOps F] {f : S384x147456.Idx → F .f32} (hf : Done L si sv t1.val f) {g : S73728.Idx → F .f32}
    (hg : Walked (key si) (val sv zero) zero (Words.base L t1) (Words.plane L t1 * 36864) 36864 g) :
    Done L si sv (t1.val + 1) ((outK L t1).view.write (Elt F) f g Finset.univ) := by
  intro x hx hlt
  by_cases hm : x ∈ (outK L t1).view.set
  · obtain ⟨j, -, rfl⟩ := Finset.mem_map.mp hm
    obtain ⟨e0, e1⟩ := outK_at L t1 j
    have e : (outK L t1).view.write (Elt F) f g Finset.univ ((outK L t1).view.emb j) = g j := View.write_emb_of_mem (Val := Elt F) (v := (outK L t1).view) f g (Finset.mem_univ j)
    rw [e, hg j]
    unfold outOf Words.base
    rw [e0, e1, ← Nat.cast_add, Nat.add_assoc]
  · have e : (outK L t1).view.write (Elt F) f g Finset.univ x = f x := View.write_of_not_mem (Val := Elt F) (v := (outK L t1).view) f g Finset.univ hm
    rw [e]
    have h := mt (mem_outK L t1 x).mpr hm
    unfold task at h
    exact hf x hx (by omega)

end Tile

end Cert.Proof.Unpool

end
-- ==== Proof.Tile.lean ====
/-
  A tile's twenty-four tasks, and the tile's whole run.
-/
module

public import proofs.«01_k».proof.Proof.Task

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

section Tile

variable (d : Dev nD) (L : grid0.Coords) (si : S14155776.Idx → BitVec 32) (sv : S14155776.Idx → F .f32) (q : PosShare TreeShare)
  (O : CellTallies nD τ sig (HIx 1)) (W : Waits sig (HIx 1))

/-- The tile's number as the kernel computes it. -/
abbrev tileW : BitVec 32 := Scalar.addi (Scalar.muli (BitVec.ofNat 32 (L 1).val) 2#32) (BitVec.ofNat 32 (L 0).val)

/-- The invariant of a tile's tasks. -/
def inv1 (k : ℕ) (_ : Unit) : sProp 𝕄 :=
  iprop(Transfers.MayWaits (thr d L) (default : HIx 1) O ∗ listKeys d L si q ∗ listVals d L sv q
    ∗ (∃ f, ⌜Done L si sv k f⌝ ∗ rowsAt d L (ownRows L) f)
    ∗ (∃ f, cellsAt (F := F) d L f) ∗ (∃ g, keysAt (F := F) d L g) ∗ (∃ g, valsAt (F := F) d L g)
    ∗ semAt (F := F) d L cc0_scoped0 ∗ semAt (F := F) d L cc0_scoped1 ∗ semAt (F := F) d L cc0_scoped2 ∗ semAt (F := F) d L cc0_scoped3 ∗ owing (F := F) d L O W)

/-- A task's half plane out of the tile's rows, -/
theorem rows_split (t1 : Fin k0_t1_loop.trips) (f : S384x147456.Idx → F .f32) :
    (rowsAt d L (ownRows L) f : sProp 𝕄) ⊣⊢ iprop(((outK L t1).view.loc (thr d L) ↦[(outK L t1).view.set]{fullShare} (f : Buf (Elt F) ((outK L t1).view.loc (thr d L)))) ∗ rowsAt d L (ownRows L \ (outK L t1).view.set) f) :=
  pointsTo_split_subset (q := fullShare) (outK_subset L t1)

/-- and back, the half plane written: the rest is as it was. -/
theorem rest_eq (t1 : Fin k0_t1_loop.trips) (f : S384x147456.Idx → F .f32) (g : S73728.Idx → F .f32) :
    (rowsAt d L (ownRows L \ (outK L t1).view.set) f : sProp 𝕄) = rowsAt d L (ownRows L \ (outK L t1).view.set) ((outK L t1).view.write (Elt F) f g Finset.univ) :=
  pointsTo_congr fun x hx => (View.write_of_not_mem (Val := Elt F) (v := (outK L t1).view) f g Finset.univ (Finset.mem_sdiff.mp hx).2).symm

/-- A write of a view's whole. -/
theorem whole_piece {s : Shape} {e : EltTy} (v : View sig .scVector .hbm s e) (f : v.ty.Contents (Elt F)) (g : s.Idx → Elt F e) :
    v.writes (Elt F) f [⟨Rect.whole s, g⟩] = v.write (Elt F) f g Finset.univ := by
  funext x
  rw [View.writes_cons, View.writes_nil]
  by_cases hx : x ∈ v.set
  · obtain ⟨j, -, rfl⟩ := Finset.mem_map.mp hx
    have e1 : (v.slice (Rect.whole s)).emb j = v.emb j := congrArg v.emb (Rect.emb_whole_apply s j)
    rw [← e1, View.write_emb_of_mem _ _ (Finset.mem_univ _), e1, View.write_emb_of_mem _ _ (Finset.mem_univ _)]
  · rw [View.write_of_not_mem _ _ _ hx, View.write_of_not_mem _ _ _ (fun h => hx (View.set_slice_subset _ _ h))]

theorem step1 (hs : Ascends si) (t1 : Fin k0_t1_loop.trips) (u : Unit) :
    inv1 d L si sv q O W t1.val u
      ⊢ wp frame (wpE (defs₀ (F := F)) 𝒱₀ (thr d L) none) Set.univ
          (k0_t1_body L kV WK vV WK oV WK cB WK kB WK vB WK cc0_scoped0 cc0_scoped1 cc0_scoped2 cc0_scoped3 (tileW L) t1 u)
          (inv1 d L si sv q O W (t1.val + 1)) := by
  unfold inv1 k0_t1_body
  simp only [k0_part1_eq_skeleton]
  unfold k0_part1_skel
  iintro ⟨#Hmw, Hsk, Hsv, ⟨%f, %hf, Ho⟩, ⟨%c, Hc⟩, Hk, Hv, Hm0, Hm1, Hm2, Hm3, HO⟩
  sl_exec
  rw [bind_assoc]
  sl_for (inv2 (F := F) d L) $$ [Hc]
  case region =>
    intro k _
    exact step2 d L t1 _ _ _ k ()
  · unfold inv2
    iexists c
    isplitr
    · ipureintro; intro j hj; omega
    iexact Hc
  iintro %_ HI
  unfold inv2
  icases HI with ⟨%c', %hc', Hc⟩
  have hz : ∀ j : S73728.Idx, c' j = zero := fun j => hc' j (by
    rw [show Scf.trips k0_t2_loop.lb k0_t2_loop.ub k0_t2_loop.st = 4608 from trips2]
    have hj : (j 0).val < 73728 := (j 0).isLt
    omega)
  sl_exec
  have e34 : step1.sl.v34 L t1 = baseW (taskW L t1) := rfl
  sl_for (inv3 d L si sv zero q t1 O W) $$ [Hsk Hsv Hc Hk Hv Hm0 Hm1 Hm2 HO]
  case region =>
    intro k _
    unfold step1.sl.prog.body_2
    dsimp only
    rw [e34]
    have h3 := @step3 F _ d L si sv zero q t1 O W hs k ()
    with_reducible assumption
  · unfold inv3
    isplitr; · iexact Hmw
    isplitl [Hsk]; · iexact Hsk
    isplitl [Hsv]; · iexact Hsv
    isplitl [Hc]
    · iexists c', 0
      isplitr
      · ipureintro; exact ⟨rfl, hz⟩
      iexact Hc
    isplitl [Hk]; · iexact Hk
    isplitl [Hv]; · iexact Hv
    isplitl [Hm0]; · iexact Hm0
    isplitl [Hm1]; · iexact Hm1
    isplitl [Hm2]; · iexact Hm2
    iexact HO
  iintro %_ HI
  unfold inv3
  icases HI with ⟨-, Hsk, Hsv, ⟨%g, %n, ⟨%hn, %hg⟩, Hc⟩, Hk, Hv, Hm0, Hm1, Hm2, %W', %hW', HO⟩
  rw [show Scf.trips k0_t3_loop.lb k0_t3_loop.ub k0_t3_loop.st = 4 from trips3] at hn
  have hg' := hg.to _ _ (show n = 36864 by omega)
  ihave Ho := (rows_split d L t1 f).1 $$ Ho
  icases Ho with ⟨Ho, Hr⟩
  sl_exec (disch := exact View.amount_pos _ _ (show 0 < S73728.numel by decide))
  have hd : step1.sl.dma0 g = g := rfl
  rw [hd, whole_piece]
  sl_step
  isplitr; · iexact Hmw
  isplitl [Hsk]; · iexact Hsk
  isplitl [Hsv]; · iexact Hsv
  isplitl [Ho Hr]
  · iexists (outK L t1).view.write (Elt F) f g Finset.univ
    isplitr
    · ipureintro; exact done_step L si sv t1 hf hg'
    iapply (rows_split d L t1 _).2
    isplitl [Ho]; · iexact Ho
    iapply (Entails.of_eq (rest_eq d L t1 f g)); iexact Hr
  isplitl [Hc]; · iexists g; iexact Hc
  isplitl [Hk]; · iexact Hk
  isplitl [Hv]; · iexact Hv
  isplitl [Hm0]; · iexact Hm0
  isplitl [Hm1]; · iexact Hm1
  isplitl [Hm2]; · iexact Hm2
  isplitl [Hm3]; · iexact Hm3
  iexists (insert (SemLoc.dma cc0_scoped3.sem, (default : HIx 1)) W')
  isplitr
  · ipureintro; exact waited hW'
  iexact HO

end Tile

end Cert.Proof.Unpool

end
-- ==== Proof.Body.lean ====
/-
  A tile's whole run: from its share of the sorted list and its rows of the result, the rows written.
-/
module

public import proofs.«01_k».proof.Proof.Tile

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

section Body

variable (d : Dev nD) (L : grid0.Coords) (si : S14155776.Idx → BitVec 32) (sv : S14155776.Idx → F .f32) (q : PosShare TreeShare)
  (O : CellTallies nD τ sig (HIx 1)) (W : Waits sig (HIx 1))

/-- A tile's semaphore cells. -/
abbrev cellOf (s : DmaSems sig S_) : GSem nD τ sig := (thr d L, .dma s.sem)

theorem cell_mem (s : DmaSems sig S_) (hs : (SemLoc.dma s.sem : SemLoc sig).isScoped .scVector = true) : cellOf d L s ∈ ownCells (thr d L) :=
  (mem_ownCells (g := cellOf d L s)).mpr ⟨rfl, hs⟩

theorem cell_ne {s t : DmaSems sig S_} (h : s.sem ≠ t.sem) : cellOf d L s ≠ cellOf d L t := fun e => h (SemLoc.dma.inj (congrArg Prod.snd e))

/-- The four cells the tasks' copies signal are among the tile's own. -/
theorem ownSems0_V :
    (ownSems0 (thr d L) : sProp 𝕄)
      = iprop(semAt (F := F) d L cc0_scoped0 ∗ semAt (F := F) d L cc0_scoped1 ∗ semAt (F := F) d L cc0_scoped2 ∗ semAt (F := F) d L cc0_scoped3
          ∗ bigSep (((((ownCells (thr d L)).erase (cellOf d L cc0_scoped0)).erase (cellOf d L cc0_scoped1)).erase (cellOf d L cc0_scoped2)).erase (cellOf d L cc0_scoped3)) fun g => semVal g 0) := by
  unfold SparseCore.Cfg.ownSems0
  rw [SparseCore.bigSep_erase' (cell_mem d L cc0_scoped0 (by decide)),
    SparseCore.bigSep_erase' (Finset.mem_erase.mpr ⟨cell_ne d L (by decide), cell_mem d L cc0_scoped1 (by decide)⟩),
    SparseCore.bigSep_erase' (Finset.mem_erase.mpr ⟨cell_ne d L (by decide), Finset.mem_erase.mpr ⟨cell_ne d L (by decide), cell_mem d L cc0_scoped2 (by decide)⟩⟩),
    SparseCore.bigSep_erase' (Finset.mem_erase.mpr ⟨cell_ne d L (by decide), Finset.mem_erase.mpr ⟨cell_ne d L (by decide), Finset.mem_erase.mpr ⟨cell_ne d L (by decide),
      cell_mem d L cc0_scoped3 (by decide)⟩⟩⟩)]

/-- A tile's own buffers. -/
abbrev refOf (b : Ref sig .scVector) : DevRef τ sig := (Proc.scVector (cV L) (jV L)).devRef b

theorem ref_mem (b : Ref sig .scVector) (h : (refOf L b).owner = .proc (.scVector (cV L) (jV L))) : refOf L b ∈ ownRefs (τ := τ) (.scVector (cV L) (jV L)) :=
  SparseCore.Cfg.mem_ownRefs_of_owner (p := Proc.scVector (cV L) (jV L)) (b := refOf L b) h

theorem ref_ne {b c : Ref sig .scVector} (h : b ≠ c) : refOf L b ≠ refOf L c := fun e => h (Proc.devRef_injective _ e)

/-- The three scratch buffers are among them. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase (refOf L cc0_scratch0)).erase (refOf L cc0_scratch1)).erase (refOf L cc0_scratch2))
              fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne L (show (cc0_scratch1 : Ref sig .scVector) ≠ cc0_scratch0 by decide), ref_mem L cc0_scratch1 rfl⟩),
    SparseCore.bigSep_erase' (Finset.mem_erase.mpr ⟨ref_ne L (show (cc0_scratch2 : Ref sig .scVector) ≠ cc0_scratch1 by decide),
      Finset.mem_erase.mpr ⟨ref_ne L (show (cc0_scratch2 : Ref sig .scVector) ≠ cc0_scratch0 by decide), ref_mem L cc0_scratch2 rfl⟩⟩)]

/-- All a tile's tasks done, its rows are the result's. -/
theorem all_done (f : S384x147456.Idx → F .f32) (hf : Done L si sv 24 f) :
    (rowsAt d L (ownRows L) f : sProp 𝕄) = rowsAt d L (ownRows L) (outOf zero si sv) :=
  pointsTo_congr fun x hx => hf x hx (by
    have h : (x 0).val / 12 = 2 * (L 1).val + (L 0).val := (Finset.mem_filter.mp hx).2
    have h1 : (x 1).val < 147456 := (x 1).isLt
    omega)

theorem tile_body (hF : (K (F := F)).Facts) (hs : Ascends si) (f₀ : S384x147456.Idx → F .f32) (hO : ∀ g, O g none = 0) :
    iprop(levAts (K (F := F)).L (K (F := F)).lev ∗ emp
        ∗ (listKeys d L si q ∗ listVals d L sv q ∗ rowsAt d L (ownRows L) f₀)
        ∗ scopedBufs (thr d L) ∗ scopedSems0 (thr d L) ∗ owes (thr d L) O W)
      ⊢ wp frame (wpE (defs₀ (F := F)) 𝒱₀ (thr d L) none) Set.univ
          (cc0__unpool_body L kV WK vV WK oV WK cB WK kB WK vB WK cc0_scoped0 cc0_scoped1 cc0_scoped2 cc0_scoped3)
          fun _ => iprop((listKeys d L si q ∗ listVals d L sv q ∗ rowsAt d L (ownRows L) (outOf zero si sv))
            ∗ scopedBufs (thr d L) ∗ scopedSems0 (thr d L)
            ∗ ∃ W', ⌜∀ p ∈ W', p ∈ W ∨ p.2 = none⌝ ∗ owes (thr d L) O W') := by
  simp only [cc0__unpool_body_eq_skeleton]; unfold cc0__unpool_body_skel
  rw [(K (F := F)).scopedBufs_V hF d (cV L) (jV L), SparseCore.Cfg.scopedSems0_V (Val := Elt F) d (cV L) (jV L), ownSems0_V, ownBufs_V]
  iintro ⟨#Hlv, -, ⟨Hsk, Hsv, Ho⟩, ⟨⟨%c, Hc⟩, ⟨%k, Hk⟩, ⟨%v, Hv⟩, Hbufs⟩, ⟨Hm0, Hm1, Hm2, Hm3, Hsems⟩, HO⟩
  ihave Hmw := (show levAts (K (F := F)).L (K (F := F)).lev ⊢ Transfers.MayWaits (thr d L) (default : HIx 1) O from
    (K (F := F)).mayWaits_none (thr := thr d L) hO) $$ Hlv
  dsimp only
  sl_for (inv1 d L si sv q O W) $$ [Hsk Hsv Ho Hc Hk Hv Hm0 Hm1 Hm2 Hm3 HO Hmw]
  case region =>
    intro t1 _
    have h1 := @step1 F _ d L si sv q O W hs t1 ()
    unfold tile_body.sl.prog.body_1
    with_reducible assumption
  · unfold inv1
    isplitl [Hmw]; · iexact Hmw
    isplitl [Hsk]; · iexact Hsk
    isplitl [Hsv]; · iexact Hsv
    isplitl [Ho]
    · iexists f₀
      isplitr
      · ipureintro
        intro x hx hlt
        have h : (x 0).val / 12 = 2 * (L 1).val + (L 0).val := (Finset.mem_filter.mp hx).2
        omega
      iexact Ho
    isplitl [Hc]; · iexists c; iexact Hc
    isplitl [Hk]; · iexists k; iexact Hk
    isplitl [Hv]; · iexists v; iexact Hv
    isplitl [Hm0]; · iexact Hm0
    isplitl [Hm1]; · iexact Hm1
    isplitl [Hm2]; · iexact Hm2
    isplitl [Hm3]; · iexact Hm3
    iexists W
    isplitr
    · ipureintro; exact fun p hp => Or.inl hp
    iexact HO
  iintro %_ HI
  unfold inv1
  icases HI with ⟨-, Hsk, Hsv, ⟨%f, %hf, Ho⟩, ⟨%c', Hc⟩, ⟨%k', Hk⟩, ⟨%v', Hv⟩, Hm0, Hm1, Hm2, Hm3, HO⟩
  rw [show Scf.trips k0_t1_loop.lb k0_t1_loop.ub k0_t1_loop.st = 24 from trips1] at hf
  ihave Ho := (Entails.of_eq (all_done d L si sv f hf)) $$ Ho
  sl_step
  isplitl [Hsk Hsv Ho]
  · isplitl [Hsk]; · iexact Hsk
    isplitl [Hsv]; · iexact Hsv
    iexact Ho
  isplitl [Hc Hk Hv Hbufs]
  · isplitl [Hc]; · iexists c'; iexact Hc
    isplitl [Hk]; · iexists k'; iexact Hk
    isplitl [Hv]; · iexists v'; iexact Hv
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexact HO

end Body

end Cert.Proof.Unpool

end
-- ==== Proof.Host.lean ====
/-
  The program around the call: the keys and the sort before it, the reshape after it.
-/
module

public import proofs.«01_k».proof.Proof.Body
public import Idealize.ShloMosaic.Lib.SortFacts
public import Idealize.ShloMosaic.Lib.Pipeline.Frame

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within wp_seq after launchContents)

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

/-- The operations before the call, and the one after it. -/
def ops : List (HloOp τ sig (Elt F)) := [
  StableHlo.nullary main_v0 (iotaInDim S384 32 0),
  StableHlo.unary main_v0 main_v1 (broadcastInDim S384x1 ![0] bcast_S384_S384x1_0 : (⟨S384, .i32⟩ : BufTy).Contents (Elt F) → (⟨S384x1, .i32⟩ : BufTy).Contents (Elt F)),
  StableHlo.nullary main_c (constantI S_ 32 147456#32),
  StableHlo.unary main_c main_v2 (broadcastInDim S384x1 ![] bcast_S_S384x1 : (⟨S_, .i32⟩ : BufTy).Contents (Elt F) → (⟨S384x1, .i32⟩ : BufTy).Contents (Elt F)),
  StableHlo.binary main_v1 main_v2 main_v3 (muli : (⟨S384x1, .i32⟩ : BufTy).Contents (Elt F) → (⟨S384x1, .i32⟩ : BufTy).Contents (Elt F) → (⟨S384x1, .i32⟩ : BufTy).Contents (Elt F)),
  StableHlo.reshape main_arg1 main_v4 (rfl : (.i32 : EltTy) = .i32) shapeCasts_S4x96x192x192_S384x36864,
  StableHlo.unary main_v3 main_v5 (broadcastInDim S384x36864 ![0, 1] bcast_S384x1_S384x36864_0_1 : (⟨S384x1, .i32⟩ : BufTy).Contents (Elt F) → (⟨S384x36864, .i32⟩ : BufTy).Contents (Elt F)),
  StableHlo.binary main_v4 main_v5 main_v6 (addi : (⟨S384x36864, .i32⟩ : BufTy).Contents (Elt F) → (⟨S384x36864, .i32⟩ : BufTy).Contents (Elt F) → (⟨S384x36864, .i32⟩ : BufTy).Contents (Elt F)),
  StableHlo.reshape main_v6 main_v7 (rfl : (.i32 : EltTy) = .i32) shapeCasts_S384x36864_S14155776,
  StableHlo.reshape main_arg0 main_v8 (rfl : (.f32 : EltTy) = .f32) shapeCasts_S4x96x192x192_S14155776,
  StableHlo.binary main_v7 main_v8 main_v9_0 ((fun x y => (Host.unstableSort2 S14155776 0 comparator_i32_f32_d0 x y).1) : (⟨S14155776, .i32⟩ : BufTy).Contents (Elt F) → (⟨S14155776, .f32⟩ : BufTy).Contents (Elt F) → (⟨S14155776, .i32⟩ : BufTy).Contents (Elt F)),
  StableHlo.binary main_v7 main_v8 main_v9_1 ((fun x y => (Host.unstableSort2 S14155776 0 comparator_i32_f32_d0 x y).2) : (⟨S14155776, .i32⟩ : BufTy).Contents (Elt F) → (⟨S14155776, .f32⟩ : BufTy).Contents (Elt F) → (⟨S14155776, .f32⟩ : BufTy).Contents (Elt F))]
def opR : HloOp τ sig (Elt F) := StableHlo.reshape main_v10 main_v11 (rfl : (.f32 : EltTy) = .f32) shapeCasts_S384x147456_S4x96x384x384

theorem ops_sub : (ops : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub ..,
    StableHlo.binary_bufs_sub .., StableHlo.reshape_bufs_sub .., StableHlo.unary_bufs_sub .., StableHlo.binary_bufs_sub ..,
    StableHlo.reshape_bufs_sub .., StableHlo.reshape_bufs_sub .., StableHlo.binary_bufs_sub .., StableHlo.binary_bufs_sub ..⟩

theorem ops_bufs : ∀ op ∈ (ops (F := F)), op.bufs ⊆ Pipeline.ucRefs τ sig := fun op h =>
  Pipeline.sub_ucRefs op (List.forall_iff_forall_mem.mp ops_sub op h)

theorem opR_bufs : (opR (F := F)).bufs ⊆ Pipeline.ucRefs τ sig := Pipeline.sub_ucRefs opR (StableHlo.reshape_bufs_sub ..)

theorem ops_fresh : ∀ op ∈ (ops (F := F)), op.fresh = ∅ :=
  List.forall_iff_forall_mem.mp (StableHlo.forall_fresh_of_map rfl)

theorem main_eq (d : Dev nD) : main (F := F) d = StableHlo.seq ops >>= fun _ => (sc.run d 0 >>= fun _ => hlo rfl opR fun _ => .ret ⟨⟩) := by
  simp only [ops, StableHlo.seq, bind_assoc, pure_bind]
  rfl

/-! ## The sort -/

/-- An unstable sort of a list by its 32-bit keys rearranges keys and values alike, the keys ascending. -/
theorem sort_rearranges {n : ℕ} (x : IVec ⟨1, ![n]⟩ 32) (y : (⟨1, ![n]⟩ : Shape).Idx → F .f32) : ∃ σ : Fin n → Fin n, Function.Bijective σ
    ∧ (∀ i, (Host.unstableSort2 ⟨1, ![n]⟩ 0 comparator_i32_f32_d0 x y).1 (.ofFin i) = x (.ofFin (σ i)))
    ∧ (∀ i, (Host.unstableSort2 ⟨1, ![n]⟩ 0 comparator_i32_f32_d0 x y).2 (.ofFin i) = y (.ofFin (σ i)))
    ∧ ∀ i j, i < j → (x (.ofFin (σ i))).toInt ≤ (x (.ofFin (σ j))).toInt := by
  have hc : ∀ l r : BitVec 32 × F .f32, comparator_i32_f32_d0 l r = 1#1 ↔ l.1.toInt < r.1.toInt := fun l r => IntOp.cmpi_slt
  have hd : 0 < (⟨1, ![n]⟩ : Shape).rank := Nat.zero_lt_one
  let fib : Fin n → BitVec 32 × F .f32 := fun k => (x (.ofFin k), y (.ofFin k))
  have hfib : ∀ i : Fin n, (fun k : Fin n => (x ((Shape.Idx.ofFin i).along (⟨0, hd⟩ : Fin (⟨1, ![n]⟩ : Shape).rank) k), y ((Shape.Idx.ofFin i).along (⟨0, hd⟩ : Fin (⟨1, ![n]⟩ : Shape).rank) k))) = fib :=
    fun i => funext fun k => by
      have e : (Shape.Idx.ofFin i).along (⟨0, hd⟩ : Fin (⟨1, ![n]⟩ : Shape).rank) k = .ofFin k := Shape.Idx.along_rank1 _ k
      simp only [e]; rfl
  refine ⟨sortedFrom (unstableBefore ⟨1, ![n]⟩ 0 comparator_i32_f32_d0 fib), ⟨sortedFrom_injective _, sortedFrom_surjective _⟩, fun i => ?_, fun i => ?_, fun i j hij => ?_⟩
  · unfold Host.unstableSort2
    rw [dif_pos hd]
    have h := congrArg (fun f => sortedFrom (n := n) (unstableBefore ⟨1, ![n]⟩ 0 comparator_i32_f32_d0 f) i) (hfib i)
    exact (congrArg (fun c : Fin n => x ((Shape.Idx.ofFin i).along ⟨0, hd⟩ c)) h).trans (congrArg x (Shape.Idx.along_rank1 _ _))
  · unfold Host.unstableSort2
    rw [dif_pos hd]
    have h := congrArg (fun f => sortedFrom (n := n) (unstableBefore ⟨1, ![n]⟩ 0 comparator_i32_f32_d0 f) i) (hfib i)
    exact (congrArg (fun c : Fin n => y ((Shape.Idx.ofFin i).along ⟨0, hd⟩ c)) h).trans (congrArg y (Shape.Idx.along_rank1 _ _))
  · have h := unstableBefore_sorted ⟨1, ![n]⟩ 0 comparator_i32_f32_d0 fib (fun a b h h' => by rw [hc] at h h'; omega)
      (fun a b c h h' h'' => by rw [Ne, hc] at h h'; rw [hc] at h''; omega) i j hij
    rw [Ne, hc] at h
    show (fib (sortedFrom _ i)).1.toInt ≤ (fib (sortedFrom _ j)).1.toInt
    omega

/-! ## The arrays before the call -/

variable (m : (ℓ : Loc nD τ sig) → Buf (Elt F) ℓ)

abbrev a0' : DevRef τ sig := Proc.devRef .tc (main_arg0 : Ref sig .tc)
abbrev a1' : DevRef τ sig := Proc.devRef .tc (main_arg1 : Ref sig .tc)
abbrev k' : DevRef τ sig := Proc.devRef .tc (main_v9_0 : Ref sig .tc)
abbrev v' : DevRef τ sig := Proc.devRef .tc (main_v9_1 : Ref sig .tc)
abbrev o' : DevRef τ sig := Proc.devRef .tc (main_v10 : Ref sig .tc)
abbrev r' : DevRef τ sig := Proc.devRef .tc (main_v11 : Ref sig .tc)

/-- The contents before the call. -/
def V12 (d : Dev nD) : Valuation τ sig (Elt F) := after ops (launchContents m d)

/-- The unsorted keys: each index plus its plane's base, and the values, as lists. -/
def keys (ix : S4x96x192x192.Idx → BitVec 32) : S14155776.Idx → BitVec 32 :=
  shapeCast S14155776 (addi (shapeCast S384x36864 ix shapeCasts_S4x96x192x192_S384x36864)
    (broadcastInDim S384x36864 ![0, 1] bcast_S384x1_S384x36864_0_1
      (muli (broadcastInDim S384x1 ![0] bcast_S384_S384x1_0 (iotaInDim S384 32 0)) (broadcastInDim S384x1 ![] bcast_S_S384x1 (constantI S_ 32 147456#32)))))
    shapeCasts_S384x36864_S14155776
def vals (x : S4x96x192x192.Idx → F .f32) : S14155776.Idx → F .f32 := shapeCast S14155776 x shapeCasts_S4x96x192x192_S14155776

/-- The sorted keys and values. -/
def si (d : Dev nD) : S14155776.Idx → BitVec 32 := (Host.unstableSort2 S14155776 0 comparator_i32_f32_d0 (keys (m (d, a1'))) (vals (m (d, a0')))).1
def sv (d : Dev nD) : S14155776.Idx → F .f32 := (Host.unstableSort2 S14155776 0 comparator_i32_f32_d0 (keys (m (d, a1'))) (vals (m (d, a0')))).2

theorem V12_k (d : Dev nD) : V12 m d k' = si m d := by
  unfold V12 ops
  after_results_simp
  rfl
theorem V12_v (d : Dev nD) : V12 m d v' = sv m d := by
  unfold V12 ops
  after_results_simp
  rfl
theorem V12_a0 (d : Dev nD) : V12 m d a0' = m (d, a0') := by
  unfold V12 ops
  after_results_simp
theorem V12_a1 (d : Dev nD) : V12 m d a1' = m (d, a1') := by
  unfold V12 ops
  after_results_simp

/-- What the sort leaves, as positions of the unsorted list. -/
theorem si_sv (d : Dev nD) : ∃ σ : Fin 14155776 → Fin 14155776, Function.Bijective σ
    ∧ (∀ i, si m d (pos i.val i.isLt) = keys (m (d, a1')) (.ofFin (σ i))) ∧ (∀ i, sv m d (pos i.val i.isLt) = vals (m (d, a0')) (.ofFin (σ i)))
    ∧ ∀ i j, i < j → (keys (m (d, a1')) (.ofFin (σ i))).toInt ≤ (keys (m (d, a1')) (.ofFin (σ j))).toInt := by
  obtain ⟨σ, h0, h1, h2, h3⟩ := sort_rearranges (n := 14155776) (keys (m (d, a1'))) (vals (m (d, a0')))
  have e : ∀ i : Fin 14155776, pos i.val i.isLt = Shape.Idx.ofFin i := fun i => by
    rw [Shape.Idx.eq_ofFin (pos i.val i.isLt)]; rfl
  exact ⟨σ, h0, fun i => (congrArg _ (e i)).trans (h1 i), fun i => (congrArg _ (e i)).trans (h2 i), h3⟩

/-- The sorted keys ascend. -/
theorem ascends (d : Dev nD) : Ascends (si m d) := by
  obtain ⟨σ, -, h1, -, h3⟩ := si_sv m d
  intro a b hab hb
  unfold key
  rw [dif_pos (show a < 14155776 by omega), dif_pos hb]
  rw [h1 ⟨a, by omega⟩, h1 ⟨b, hb⟩]
  rcases Nat.eq_or_lt_of_le hab with h | h
  · subst h; exact le_refl _
  · exact h3 ⟨a, by omega⟩ ⟨b, hb⟩ h

end Cert.Proof.Unpool

end
-- ==== Proof.Launch.lean ====
/-
  The launch: how the sorted list and the rows of the result go out to the tiles and come back, and the program's whole run.
-/
module

public import proofs.«01_k».proof.Proof.Host

@[expose] public section

noncomputable section

namespace Cert.Proof.Unpool

open Cert.KernelIdeal Cert.KernelIdeal.Gen Cert.Proof.Words Cert.Proof.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within wp_seq after launchContents)

variable {F : FTy → Type} [FloatOps F]

local notation "𝕄" => MT nD τ sig (HIx 1) (Elt F) ℕ UU ℕ
local notation "kV" => (Memref.whole Cert.KernelIdeal.main_v9_0_scv : Memref Cert.KernelIdeal.sig Kind.scVector Space.hbm Cert.KernelIdeal.S14155776 EltTy.i32)
local notation "vV" => (Memref.whole Cert.KernelIdeal.main_v9_1_scv : Memref Cert.KernelIdeal.sig Kind.scVector Space.hbm Cert.KernelIdeal.S14155776 EltTy.f32)
local notation "oV" => (Memref.whole Cert.KernelIdeal.main_v10_scv : Memref Cert.KernelIdeal.sig Kind.scVector Space.hbm Cert.KernelIdeal.S384x147456 EltTy.f32)
local notation "cB" => (Memref.whole Cert.KernelIdeal.cc0_scratch0 : Memref Cert.KernelIdeal.sig Kind.scVector Space.vmem Cert.KernelIdeal.S73728 EltTy.f32)
local notation "kB" => (Memref.whole Cert.KernelIdeal.cc0_scratch1 : Memref Cert.KernelIdeal.sig Kind.scVector Space.vmem Cert.KernelIdeal.S9232 EltTy.i32)
local notation "vB" => (Memref.whole Cert.KernelIdeal.cc0_scratch2 : Memref Cert.KernelIdeal.sig Kind.scVector Space.vmem Cert.KernelIdeal.S9216 EltTy.f32)
local notation "WK" => Memref.isWhole_whole _

variable (m : (ℓ : Loc nD τ sig) → Buf (Elt F) ℓ) (ρ : Dev nD → PrngReg)

/-! ## What a SparseCore and what a tile holds -/

/-- The result of the call. -/
abbrev outV (d : Dev nD) : S384x147456.Idx → F .f32 := outOf zero (si m d) (sv m d)

/-- A SparseCore's half share of the sorted list, and its rows at `f`. -/
abbrev corePts (d : Dev nD) (c : Fin 2) (f : S384x147456.Idx → F .f32) : sProp 𝕄 :=
  iprop((kLoc d ↦{coreShare c} (si m d : Buf (Elt F) (kLoc d))) ∗ (vLoc d ↦{coreShare c} (sv m d : Buf (Elt F) (vLoc d))) ∗ oLoc d ↦[coreRows c]{fullShare} (f : Buf (Elt F) (oLoc d)))
/-- A tile's. -/
abbrev tilePts (d : Dev nD) (c : Fin 2) (i : Fin 16) (f : S384x147456.Idx → F .f32) : sProp 𝕄 :=
  iprop((kLoc d ↦{tileShare c i} (si m d : Buf (Elt F) (kLoc d))) ∗ (vLoc d ↦{tileShare c i} (sv m d : Buf (Elt F) (vLoc d))) ∗ oLoc d ↦[tileRows c i]{fullShare} (f : Buf (Elt F) (oLoc d)))

/-- The result's contents before the call. -/
abbrev outIn (d : Dev nD) : S384x147456.Idx → F .f32 := V12 m d o'

omit [FloatOps F] in
theorem rows_tiles (c : Fin 2) : coreRows c = (Finset.univ : Finset (Fin 16)).biUnion (tileRows c) := by
  ext x
  have hx : (x 0).val < 384 := (x 0).isLt
  have hc := c.isLt
  simp only [coreRows, tileRows, Finset.mem_biUnion, Finset.mem_filter, Finset.mem_univ, _root_.true_and]
  constructor
  · intro h
    exact ⟨⟨(x 0).val / 12 / 2, by omega⟩, by show _ = 2 * ((x 0).val / 12 / 2) + c.val; omega⟩
  · rintro ⟨i, hi⟩; omega

omit [FloatOps F] in
theorem rows_cores : (Finset.univ : Finset S384x147456.Idx) = (Finset.univ : Finset (Fin 2)).biUnion coreRows := by
  ext x
  simp only [coreRows, Finset.mem_biUnion, Finset.mem_filter, Finset.mem_univ, _root_.true_and, true_iff]
  exact ⟨⟨(x 0).val / 12 % 2, by omega⟩, rfl⟩

omit [FloatOps F] in
theorem tiles_disjoint (c : Fin 2) : ∀ i ∈ (Finset.univ : Finset (Fin 16)), ∀ j ∈ (Finset.univ : Finset (Fin 16)), i ≠ j → Disjoint (tileRows c i) (tileRows c j) :=
  fun i _ j _ h => Finset.disjoint_left.mpr fun x hx hy => h (Fin.ext (by
    have h1 := (Finset.mem_filter.mp hx).2; have h2 := (Finset.mem_filter.mp hy).2; omega))

omit [FloatOps F] in
theorem cores_disjoint : ∀ i ∈ (Finset.univ : Finset (Fin 2)), ∀ j ∈ (Finset.univ : Finset (Fin 2)), i ≠ j → Disjoint (coreRows i) (coreRows j) :=
  fun i _ j _ h => Finset.disjoint_left.mpr fun x hx hy => h (Fin.ext (by
    have h1 := (Finset.mem_filter.mp hx).2; have h2 := (Finset.mem_filter.mp hy).2; omega))

/-- A SparseCore's holding is its tiles'. -/
theorem core_tiles (d : Dev nD) (c : Fin 2) (f : S384x147456.Idx → F .f32) : corePts m d c f = bigSep Finset.univ fun i : Fin 16 => tilePts m d c i f := by
  unfold corePts tilePts
  rw [bigSep_sep', bigSep_sep', rows_tiles c, pointsTo_biUnion Finset.univ (ℓ := oLoc d) (tileRows c) (tiles_disjoint c)]
  rw [pointsTo_pieces (ℓ := kLoc d) Finset.univ _ 4 (coreShare c), pointsTo_pieces (ℓ := vLoc d) Finset.univ _ 4 (coreShare c)]
  rfl

/-- The three arrays are the two SparseCores'. -/
theorem whole_cores (d : Dev nD) (f : S384x147456.Idx → F .f32) :
    (iprop((kLoc d ↦{fullShare} (si m d : Buf (Elt F) (kLoc d))) ∗ (vLoc d ↦{fullShare} (sv m d : Buf (Elt F) (vLoc d))) ∗ oLoc d ↦{fullShare} (f : Buf (Elt F) (oLoc d))) : sProp 𝕄)
      = bigSep Finset.univ fun c : Fin 2 => corePts m d c f := by
  unfold corePts
  rw [bigSep_sep', bigSep_sep', rows_cores, pointsTo_biUnion Finset.univ (ℓ := oLoc d) coreRows cores_disjoint]
  rw [pointsTo_pieces (ℓ := kLoc d) Finset.univ _ 1 fullShare, pointsTo_pieces (ℓ := vLoc d) Finset.univ _ 1 fullShare]
  rfl

/-! ## The handshakes' payloads -/

def P : (K (F := F)).Pay (nD := nD) (Val := Elt F) (Name := ℕ) (U := UU) where
  st := fun q d c => match q with | 0 => corePts m d (Fin.cast nCore_zero c) (outIn m d)
  dn := fun q d c => match q with | 0 => corePts m d (Fin.cast nCore_zero c) (outV m d)
  go := fun q d c i => match q with | 0 => tilePts m d (Fin.cast nCore_zero c) (Fin.cast nSub_zero i) (outIn m d)
  td := fun q d c i => match q with | 0 => tilePts m d (Fin.cast nCore_zero c) (Fin.cast nSub_zero i) (outV m d)
  x := fun _ _ => iprop(emp)

instance P_storable : (P (F := F) m).IsStorable where
  st q d c := match q with
    | 0 => (inferInstance : BI.Storable (upEmb : UEmb _ 𝕄) (corePts m d (Fin.cast nCore_zero c) (outIn m d)))
  dn q d c := match q with
    | 0 => (inferInstance : BI.Storable (upEmb : UEmb _ 𝕄) (corePts m d (Fin.cast nCore_zero c) (outV m d)))
  go q d c i := match q with
    | 0 => (inferInstance : BI.Storable (upEmb : UEmb _ 𝕄) (tilePts m d (Fin.cast nCore_zero c) (Fin.cast nSub_zero i) (outIn m d)))
  td q d c i := match q with
    | 0 => (inferInstance : BI.Storable (upEmb : UEmb _ 𝕄) (tilePts m d (Fin.cast nCore_zero c) (Fin.cast nSub_zero i) (outV m d)))

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__unpool_body (coordsV c s) kV WK vV WK oV WK cB WK kB WK vB WK
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (si m d) (sv m d) (tileShare (Fin.cast nCore_zero c) (Fin.cast nSub_zero i)) O W facts (ascends m d)
    (outIn m d) hO).trans (wp_mono frame _ _ fun _ => obl_post)

/-! ## A SparseCore's operands among its tiles -/

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePts m d (Fin.cast nCore_zero c) (outIn m d) ⊢ |={Set.univ}=> iprop(
      (bigSep Finset.univ fun i : Fin ((K (F := F)).nSub 0) => tilePts m d (Fin.cast nCore_zero c) (Fin.cast nSub_zero i) (outIn m d))
      ∗ ((bigSep Finset.univ fun i : Fin ((K (F := F)).nSub 0) => tilePts m d (Fin.cast nCore_zero c) (Fin.cast nSub_zero i) (outV m d))
          -∗ corePts m d (Fin.cast nCore_zero c) (outV m d)))
  rw [bigSep_tiles (fun i => tilePts m d (Fin.cast nCore_zero c) i (outIn m d)), bigSep_tiles (fun i => tilePts m d (Fin.cast nCore_zero c) i (outV m d)),
    ← core_tiles, ← core_tiles]
  iintro H; imodintro
  isplitl [H]; · iexact H
  iintro H; iexact H

/-! ## The launch element of the ghost state -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The program on the TensorCore -/

/-- The contents after the call, and at the end. -/
def V13 (d : Dev nD) : Valuation τ sig (Elt F) := Function.update (V12 m d) o' (outV m d)
def Vend (d : Dev nD) : Valuation τ sig (Elt F) := (opR (F := F)).result (V13 m d)

abbrev S3 : Finset (DevRef τ sig) := {k', v', o'}
abbrev SE : Finset (DevRef τ sig) := {a0', a1', r'}

theorem held_three (d : Dev nD) (a b c : DevRef τ sig) (hab : a ∉ ({b, c} : Finset (DevRef τ sig))) (hbc : b ∉ ({c} : Finset (DevRef τ sig))) (W : Valuation τ sig (Elt F)) :
    (held (T d) {a, b, c} W : sProp 𝕄) = iprop(((d, a) ↦{fullShare} W a) ∗ ((d, b) ↦{fullShare} W b) ∗ (d, c) ↦{fullShare} W c) := by
  unfold held
  rw [SparseCore.bigSep_insert' hab, SparseCore.bigSep_insert' hbc, bigSep_singleton]

theorem S3_sub : S3 ⊆ Pipeline.ucRefs τ sig := by decide
theorem SE_sub : SE ⊆ Pipeline.ucRefs τ sig := by decide

/-- Before the call the three arrays are what the SparseCores take. -/
theorem held_before (d : Dev nD) : (held (T d) S3 (V12 m d) : sProp 𝕄) = bigSep Finset.univ fun c : Fin 2 => corePts m d c (outIn m d) := by
  rw [← whole_cores, held_three d k' v' o' (by decide) (by decide), V12_k, V12_v]
theorem held_after (d : Dev nD) : (held (T d) S3 (V13 m d) : sProp 𝕄) = bigSep Finset.univ fun c : Fin 2 => corePts m d c (outV m d) := by
  rw [← whole_cores, held_three d k' v' o' (by decide) (by decide)]
  unfold V13
  rw [Function.update_of_ne (show k' ≠ o' by decide), Function.update_of_ne (show v' ≠ o' by decide), Function.update_self, V12_k, V12_v]
theorem held_others (d : Dev nD) : (held (T d) (Pipeline.ucRefs τ sig \ S3) (V12 m d) : sProp 𝕄) = held (T d) (Pipeline.ucRefs τ sig \ S3) (V13 m d) :=
  held_congr _ fun b hb => by
    unfold V13
    rw [Function.update_of_ne]
    rintro rfl
    exact (Finset.mem_sdiff.mp hb).2 (by decide)

theorem Vend_a0 (d : Dev nD) : Vend m d a0' = m (d, a0') := by
  unfold Vend
  rw [(opR (F := F)).result_of_not_mem (V13 m d) (b := a0') (show a0' ∉ ({r'} : Finset (DevRef τ sig)) by decide)]
  exact (Function.update_of_ne (show a0' ≠ o' by decide) _ _).trans (V12_a0 m d)
theorem Vend_a1 (d : Dev nD) : Vend m d a1' = m (d, a1') := by
  unfold Vend
  rw [(opR (F := F)).result_of_not_mem (V13 m d) (b := a1') (show a1' ∉ ({r'} : Finset (DevRef τ sig)) by decide)]
  exact (Function.update_of_ne (show a1' ≠ o' by decide) _ _).trans (V12_a1 m d)

/-- The program's result: the planes, in the result's shape. -/
def res (d : Dev nD) : S4x96x384x384.Idx → F .f32 := shapeCast S4x96x384x384 (outV m d) shapeCasts_S384x147456_S4x96x384x384

theorem Vend_r (d : Dev nD) : Vend m d r' = res m d := by
  unfold Vend opR res
  rw [StableHlo.reshape_result]
  unfold V13
  rw [Function.update_self]
  rfl

/-- What the program leaves its claims: the arguments as they were, and the result. -/
abbrev FIN (d : Dev nD) : sProp 𝕄 := held (T d) SE (Vend m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (T d) (Pipeline.ucRefs τ sig) (launchContents m d) from
    Pipeline.unscopedBufs_held d (launchContents m d)]
  iintro ⟨#Hctx, Hst, ⟨Hb, Hheld, Hts, -⟩, -⟩
  iapply (wp_seq 𝒱 none Set.univ d (Pipeline.ucRefs τ sig) _ ops ops_bufs ops_fresh (launchContents m d)) $$ [Hb Hheld]
  · isplitl [Hb] <;> iassumption
  iintro ⟨Hb, Hheld⟩
  simp only [wp_bind, wp_pure]
  ihave Hh := (show (held (d.tc : Thread nD τ) (Pipeline.ucRefs τ sig) (after ops (launchContents m d)) : sProp 𝕄) ⊢ _ from
    Entails.of_eq (held_sub_split (c := (T d : Thread nD τ)) S3_sub (V12 m d))) $$ Hheld
  icases Hh with ⟨H3, Hrest⟩
  ihave H3 := (Entails.of_eq (held_before m d)) $$ H3
  iapply ((K (F := F)).wp_run (D (F := F)) 𝒱 (EH := EH) (P := P m) κ d 0) $$ [Hst H3 Hb Hrest Hts]
  isplitr; · iexact Hctx
  isplitl [Hst]; · iexact Hst
  isplitl [H3]
  · iapply (Entails.of_eq (bigSep_cores (F := F) (fun c => corePts m d c (outIn m d))).symm); iexact H3
  iintro ⟨Hst, Hdn⟩
  ihave Hdn := (show (bigSep Finset.univ fun c : Fin ((K (F := F)).nCore 0) => (P m).dn 0 d c) ⊢ _ from
    Entails.of_eq (bigSep_cores (F := F) (fun c => corePts m d c (outV m d)))) $$ Hdn
  ihave Hdn := (Entails.of_eq (held_after m d).symm) $$ Hdn
  ihave Hrest := (Entails.of_eq (held_others m d)) $$ Hrest
  iapply (wp_hlo_within 𝒱 (SparseCore.T d) none Set.univ (op := opR) (S := Pipeline.ucRefs τ sig) opR_bufs (V := V13 m d)) $$ [Hb Hdn Hrest]
  · isplitl [Hb]; · iexact Hb
    iapply (Entails.of_eq (held_sub_split (c := (T d : Thread nD τ)) S3_sub (V13 m d)).symm)
    isplitl [Hdn] <;> iassumption
  iintro ⟨Hb, Hheld⟩
  ihave Hh := (show (held (T d : Thread nD τ) (Pipeline.ucRefs τ sig) (opR.result (V13 m d)) : sProp 𝕄) ⊢ _ from
    Entails.of_eq (held_sub_split (c := (T d : Thread nD τ)) SE_sub (Vend m d))) $$ Hheld
  icases Hh with ⟨HE, -⟩
  rw [wp_ret]; imodintro
  isplitl [Hst]; · iexact Hst
  isplitl [HE]; · iexact HE
  isplitl [Hb] <;> iassumption

/-- What is read of device `d`'s final state. -/
def fq (d : Dev nD) (s' : Phys nD τ sig (Elt F)) : Prop :=
  s'.mem.mem (d, a0') = m (d, a0') ∧ s'.mem.mem (d, a1') = m (d, a1') ∧ s'.mem.mem (d, r') = res m d

set_option maxRecDepth 16384 in
theorem hfin (d : Dev nD) (s' : Phys nD τ sig (Elt F)) : iprop(FIN m d ∗ SI s') ⊢ (⌜fq m d s'⌝ : sProp 𝕄) := by
  unfold FIN
  rw [held_three d a0' a1' r' (by decide) (by decide), Vend_a0, Vend_a1, Vend_r]
  iintro ⟨⟨H0, H1, H2⟩, HSI⟩
  ihave H := (persistent_entails_right (SI_pointsTo_agree (st := s') (ℓ := (d, a0')) (I := Finset.univ) (q := fullShare) (f := m (d, a0')))) $$ [HSI H0]
  · isplitl [HSI] <;> iassumption
  icases H with ⟨%h0, HSI, -⟩
  ihave H := (persistent_entails_right (SI_pointsTo_agree (st := s') (ℓ := (d, a1')) (I := Finset.univ) (q := fullShare) (f := m (d, a1')))) $$ [HSI H1]
  · isplitl [HSI] <;> iassumption
  icases H with ⟨%h1, HSI, -⟩
  ihave H := (SI_pointsTo_agree (st := s') (ℓ := (d, r')) (I := Finset.univ) (q := fullShare) (f := res m d)) $$ [HSI H2]
  · isplitl [HSI] <;> iassumption
  icases H with %h2
  ipureintro; exact ⟨funext fun i => h0 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (c, a0') = m (c, a0') ∧ r.2.mem (c, a1') = m (c, a1') ∧ r.2.mem (c, r') = res m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Unpool

end
-- ==== Proof.Scatter.lean ====
/-
  What the printed scatters and gathers read and write at one cell, when every index lies in its plane: position `(b, c, n)` is
  sent to cell `(b, c, i)`, `i` its index word.
-/
module

public import Idealize.ShloMosaic.Lib.Pointwise
public import Idealize.ShloMosaic.Lib.Routing.OpsPair
public import Idealize.ShloMosaic.Lib.Pipeline.Value

@[expose] public section

noncomputable section

namespace Cert.Proof.Scatter

open Idealize.ShloMosaic

abbrev SX : Shape := ⟨4, ![4, 96, 192, 192]⟩
abbrev SN : Shape := ⟨3, ![4, 96, 36864]⟩
abbrev SN1 : Shape := ⟨4, ![4, 96, 36864, 1]⟩
abbrev SI : Shape := ⟨4, ![4, 96, 36864, 3]⟩
abbrev SO : Shape := ⟨3, ![4, 96, 147456]⟩
abbrev SR : Shape := ⟨4, ![4, 96, 384, 384]⟩
abbrev SB : Shape := ⟨1, ![4]⟩
abbrev SB3 : Shape := ⟨3, ![4, 1, 1]⟩
abbrev SC : Shape := ⟨1, ![96]⟩
abbrev SC3 : Shape := ⟨3, ![1, 96, 1]⟩
abbrev S0 : Shape := ⟨0, ![]⟩

/-! ## The shapes' relations -/

theorem cast_SX_SN : SX.ShapeCasts SN := by decide
theorem cast_SO_SR : SO.ShapeCasts SR := by decide
theorem cast_SR_SO : SR.ShapeCasts SO := by decide
theorem bc_SB : SB.BroadcastsInDim SB3 (![0] : Fin 1 → Fin SB3.rank) := by decide
theorem bc_SC : SC.BroadcastsInDim SC3 (![1] : Fin 1 → Fin SC3.rank) := by decide
theorem bc_0_SB3 : S0.BroadcastsInDim SB3 (![] : Fin 0 → Fin SB3.rank) := by decide
theorem bc_0_SC3 : S0.BroadcastsInDim SC3 (![] : Fin 0 → Fin SC3.rank) := by decide
theorem bc_0_SN : S0.BroadcastsInDim SN (![] : Fin 0 → Fin SN.rank) := by decide
theorem bc_0_SO : S0.BroadcastsInDim SO (![] : Fin 0 → Fin SO.rank) := by decide
theorem bc_SB3_SN : SB3.BroadcastsInDim SN (![0, 1, 2] : Fin 3 → Fin SN.rank) := by decide
theorem bc_SC3_SN : SC3.BroadcastsInDim SN (![0, 1, 2] : Fin 3 → Fin SN.rank) := by decide
theorem bc_SN_SN1 : SN.BroadcastsInDim SN1 (![0, 1, 2] : Fin 3 → Fin SN1.rank) := by decide
theorem cat : Shape.Concatenates [SN1, SN1, SN1] SI 3 := by decide

/-- Where the updates land, and where the positions read. -/
def lands : ScatterDims SO SI SN where
  updateWindowDims := []
  insertedWindowDims := [0, 1, 2]
  scatterDimsToOperandDims := [0, 1, 2]
  indexVectorDim := 3
def readers : GatherDims SO SI SN where
  offsetDims := []
  collapsedSliceDims := [0, 1, 2]
  operandBatchingDims := []
  startIndicesBatchingDims := []
  startIndexMap := [0, 1, 2]
  indexVectorDim := 3
  sliceSizes := ![1, 1, 1]

/-! ## The table of indices -/

def rowsB : SB3.Idx → BitVec 32 := broadcastInDim SB3 ![0] bc_SB (iotaInDim SB 32 0)
def rowsC : SC3.Idx → BitVec 32 := broadcastInDim SC3 ![1] bc_SC (iotaInDim SC 32 0)
def wrapB : SB3.Idx → BitVec 32 :=
  select (cmpi .slt rowsB (broadcastInDim SB3 ![] bc_0_SB3 (constantI S0 32 0#32))) (addi rowsB (broadcastInDim SB3 ![] bc_0_SB3 (constantI S0 32 4#32))) rowsB
def wrapC : SC3.Idx → BitVec 32 :=
  select (cmpi .slt rowsC (broadcastInDim SC3 ![] bc_0_SC3 (constantI S0 32 0#32))) (addi rowsC (broadcastInDim SC3 ![] bc_0_SC3 (constantI S0 32 96#32))) rowsC
def wrapN (i : SN.Idx → BitVec 32) : SN.Idx → BitVec 32 :=
  select (cmpi .slt i (broadcastInDim SN ![] bc_0_SN (constantI S0 32 0#32))) (addi i (broadcastInDim SN ![] bc_0_SN (constantI S0 32 147456#32))) i

/-- The three index words of each position: its batch, its channel, its index. -/
def table (i : SN.Idx → BitVec 32) : SI.Idx → BitVec 32 :=
  concatenate SI 3 [⟨SN1, broadcastInDim SN1 ![0, 1, 2] bc_SN_SN1 (broadcastInDim SN ![0, 1, 2] bc_SB3_SN wrapB)⟩,
    ⟨SN1, broadcastInDim SN1 ![0, 1, 2] bc_SN_SN1 (broadcastInDim SN ![0, 1, 2] bc_SC3_SN wrapC)⟩, ⟨SN1, broadcastInDim SN1 ![0, 1, 2] bc_SN_SN1 (wrapN i)⟩] cat

open Idealize.ShloMosaic.Routing (wrap_of_lt scatter_at resultIdx?_eq_some)

theorem table_b (i : SN.Idx → BitVec 32) (b : Fin 4) (c : Fin 96) (n : Fin 36864) : table i (ix4 b c n 0) = BitVec.ofNat 32 b.val := by
  pointwise [table, wrapB, rowsB]
  exact wrap_of_lt _ _ (by rw [BitVec.toNat_ofNat]; have := b.isLt; omega)

theorem table_c (i : SN.Idx → BitVec 32) (b : Fin 4) (c : Fin 96) (n : Fin 36864) : table i (ix4 b c n 1) = BitVec.ofNat 32 c.val := by
  pointwise [table, wrapC, rowsC]
  exact wrap_of_lt _ _ (by rw [BitVec.toNat_ofNat]; have := c.isLt; omega)

theorem table_n (i : SN.Idx → BitVec 32) (b : Fin 4) (c : Fin 96) (n : Fin 36864) (h : (i (ix3 b c n)).toNat < 147456) :
    table i (ix4 b c n 2) = i (ix3 b c n) := by
  pointwise [table, wrapN]
  exact wrap_of_lt _ _ (by omega)

/-! ## Where a position is sent -/

section Cells

variable (i : SN.Idx → BitVec 32) (hi : ∀ j, (i j).toNat < 147456)

/-- A position's coordinates. -/
abbrev pb (j : SN.Idx) : Fin 4 := j 0
abbrev pc (j : SN.Idx) : Fin 96 := j 1
abbrev pn (j : SN.Idx) : Fin 36864 := j 2

theorem eta (j : SN.Idx) : ix3 (pb j) (pc j) (pn j) = j := ix3_eta j

/-- The cell position `j` is sent to. -/
def cell (j : SN.Idx) : SO.Idx := ix3 (pb j) (pc j) (⟨(i j).toNat, hi j⟩ : Fin 147456)

/-- The place of position `j`'s word `a` in the table. -/
def word (j : SN.Idx) (a : Fin 3) : SI.Idx := ix4 (pb j) (pc j) (pn j) a

theorem toInt_small (n : ℕ) (h : n < 2 ^ 31) : (BitVec.ofNat 32 n).toInt = (n : ℤ) := by
  rw [BitVec.toInt_eq_toNat_cond, BitVec.toNat_ofNat, Nat.mod_eq_of_lt (by omega), if_pos (by omega)]

/-- The words of position `j` in the table. -/
theorem table_word (j : SN.Idx) (a : Fin 3) : (table i (word j a)).toInt = ((cell i hi j a).val : ℤ) := by
  have hn := hi j
  have h0 := (pb j).isLt
  have h1 := (pc j).isLt
  match a with
  | ⟨0, _⟩ => exact (congrArg BitVec.toInt (table_b i (pb j) (pc j) (pn j))).trans (toInt_small _ (by omega))
  | ⟨1, _⟩ => exact (congrArg BitVec.toInt (table_c i (pb j) (pc j) (pn j))).trans (toInt_small _ (by omega))
  | ⟨2, _⟩ =>
    refine (congrArg BitVec.toInt ((table_n i (pb j) (pc j) (pn j) (by rw [eta]; exact hn)).trans (congrArg i (eta j)))).trans ?_
    show (i j).toInt = ((i j).toNat : ℤ)
    rw [BitVec.toInt_eq_toNat_cond]; omega

theorem lands_word (j : SN.Idx) (a : Fin 3) (h) : lands.siIdx j ⟨lands.scatterDimsToOperandDims.idxOf a, h⟩ = word j a := by
  funext b; fin_cases b <;> fin_cases a <;> rfl

theorem readers_word (j : SN.Idx) (a : Fin 3) (h) : readers.siIdx j ⟨readers.startIndexMap.idxOf a, h⟩ = word j a := by
  funext b; fin_cases b <;> fin_cases a <;> rfl

/-- Update `j` lands at its cell. -/
theorem lands_at (j : SN.Idx) (q : SO.Idx) : lands.resultIdx? j (table i) = some q ↔ cell i hi j = q := by
  rw [resultIdx?_eq_some]
  have hs : ∀ a : Fin 3, lands.start j (table i) a + (lands.window j a : ℤ) = ((cell i hi j a).val : ℤ) := fun a => by
    have hm : a ∈ lands.scatterDimsToOperandDims := by fin_cases a <;> decide
    have hw : lands.window j a = 0 := by fin_cases a <;> rfl
    have e : lands.start j (table i) a = ((cell i hi j a).val : ℤ) := by
      unfold ScatterDims.start
      rw [dif_pos hm, lands_word]
      exact table_word i hi j a
    rw [hw, e]; simp
  constructor
  · intro h
    funext a
    have := h a
    rw [hs a] at this
    exact Fin.ext (by exact_mod_cast this)
  · intro h a
    rw [hs a, h]

/-- Position `j` reads its cell. -/
theorem reads_at {α : Type} (o : SO.Idx → α) (j : SN.Idx) : Host.gather readers o (table i) j = o (cell i hi j) := by
  refine congrArg o ?_
  funext a
  apply Fin.ext
  show readers.start j (table i) a + readers.batchCoord j a + readers.offCoord j a = _
  have hm : a ∈ readers.startIndexMap := by fin_cases a <;> decide
  have hb : readers.batchCoord j a = 0 := by fin_cases a <;> rfl
  have ho : readers.offCoord j a = 0 := by fin_cases a <;> rfl
  have hs : readers.sliceSizes a = 1 := by fin_cases a <;> rfl
  have hlt : (cell i hi j a).val < SO.size a := (cell i hi j a).isLt
  have e : readers.start j (table i) a = min ((cell i hi j a).val : ℤ).toNat (SO.size a - 1) := by
    unfold GatherDims.start
    rw [dif_pos hm, hs]
    refine congrArg (fun z : ℤ => min z.toNat (SO.size a - 1)) ?_
    rw [readers_word]
    exact table_word i hi j a
  rw [hb, ho, e, Int.toNat_natCast]
  omega

/-! ## The scatters at a cell -/

/-- Overwriting leaves a cell nothing is sent to as it was. -/
theorem set_none {α : Type} (x : SO.Idx → α) (u : SN.Idx → α) (q : SO.Idx) (h : ∀ j, cell i hi j ≠ q) :
    Host.scatter lands (fun _ b => b) x (table i) u q = x q := by
  rw [scatter_at]
  generalize List.finRange SN.numel = l
  induction l with
  | nil => rfl
  | cons a l ih =>
    rw [List.foldl_cons, if_neg fun e => h _ ((lands_at i hi _ _).mp e)]
    exact ih

/-- Adding up flags along a list: nothing is added exactly when no flag there is set. -/
theorem add_flags {ι : Type} (P : ι → Prop) [DecidablePred P] (w : ι → BitVec 32) (hw : ∀ n, (w n).toNat ≤ 1) (l : List ι) :
    ∀ a : BitVec 32, a.toNat + l.length < 2 ^ 31 →
      (a.toNat ≤ (l.foldl (fun a n => if P n then IntOp.addi a (w n) else a) a).toNat)
      ∧ ((l.foldl (fun a n => if P n then IntOp.addi a (w n) else a) a).toNat ≤ a.toNat + l.length)
      ∧ ((l.foldl (fun a n => if P n then IntOp.addi a (w n) else a) a).toNat = a.toNat ↔ ∀ n ∈ l, P n → w n = 0#32) := by
  induction l with
  | nil => intro a _; simp
  | cons n l ih =>
    intro a ha
    rw [List.foldl_cons]
    rw [List.length_cons] at ha ⊢
    have hwn := hw n
    by_cases hp : P n
    · rw [if_pos hp]
      have e : (IntOp.addi a (w n)).toNat = a.toNat + (w n).toNat := by
        show (a + w n).toNat = _
        rw [BitVec.toNat_add]; omega
      obtain ⟨h1, h2, h3⟩ := ih (IntOp.addi a (w n)) (by rw [e]; omega)
      rw [e] at h1 h2 h3
      refine ⟨by omega, by omega, ?_⟩
      have hz : w n = 0#32 ↔ (w n).toNat = 0 := ⟨fun h => by rw [h]; rfl, fun h => BitVec.eq_of_toNat_eq h⟩
      rw [List.forall_mem_cons, hz]
      constructor
      · intro h; exact ⟨fun _ => by omega, h3.mp (by omega)⟩
      · rintro ⟨h, h'⟩; have := h3.mpr h'; have := h hp; omega
    · rw [if_neg hp]
      obtain ⟨h1, h2, h3⟩ := ih a (by omega)
      refine ⟨h1, by omega, h3.trans ?_⟩
      rw [List.forall_mem_cons]
      exact ⟨fun h => ⟨fun h' => absurd h' hp, h⟩, fun h => h.2⟩

theorem numel_SN : SN.numel = 14155776 := by decide

/-- How many of the positions sent to a cell are flagged: none, or a positive number. -/
theorem count_at (z : SO.Idx → BitVec 32) (hz : ∀ q, z q = 0#32) (w : SN.Idx → BitVec 32) (hw : ∀ j, (w j).toNat ≤ 1) (q : SO.Idx) :
    (Host.scatter lands IntOp.addi z (table i) w q = 0#32 ↔ ∀ j, cell i hi j = q → w j = 0#32)
    ∧ ((∃ j, cell i hi j = q ∧ w j ≠ 0#32) → 0 < (Host.scatter lands IntOp.addi z (table i) w q).toInt) := by
  rw [scatter_at, hz q]
  obtain ⟨h1, h2, h3⟩ := add_flags (fun n => lands.resultIdx? (SN.rowMajor.symm n) (table i) = some q) (fun n => w (SN.rowMajor.symm n))
    (fun n => hw _) (List.finRange SN.numel) 0#32 (by rw [List.length_finRange, numel_SN]; decide)
  rw [List.length_finRange] at h2
  have hN := numel_SN
  simp only [BitVec.toNat_ofNat] at h1 h2 h3
  generalize List.foldl (fun a n => if lands.resultIdx? (SN.rowMajor.symm n) (table i) = some q then IntOp.addi a (w (SN.rowMajor.symm n)) else a) 0#32 (List.finRange SN.numel) = r at *
  have e : (∀ n ∈ List.finRange SN.numel, lands.resultIdx? (SN.rowMajor.symm n) (table i) = some q → w (SN.rowMajor.symm n) = 0#32)
      ↔ ∀ j, cell i hi j = q → w j = 0#32 := by
    constructor
    · intro h j hj
      have := h (SN.rowMajor j) (List.mem_finRange _)
      rw [Equiv.symm_apply_apply] at this
      exact this ((lands_at i hi _ _).mpr hj)
    · intro h n _ hn
      exact h _ ((lands_at i hi _ _).mp hn)
  rw [e] at h3
  have hr : r = 0#32 ↔ r.toNat = 0 := ⟨fun h => by rw [h]; rfl, fun h => BitVec.eq_of_toNat_eq h⟩
  refine ⟨hr.trans (by simpa using h3), fun ⟨j, hj, hne⟩ => ?_⟩
  have hpos : r.toNat ≠ 0 := fun h => hne ((h3.mp (by simpa using h)) j hj)
  rw [BitVec.toInt_eq_toNat_cond]
  simp only [Nat.zero_mod] at h2
  rw [if_pos (by omega)]
  omega

end Cells

end Cert.Proof.Scatter

end
-- ==== Proof.Sorted.lean ====
/-
  The kernel's result read at a cell: the value of one of the positions sent there, or zero when there is none.  Keys are grouped
  by plane, so sorting them moves no position out of its plane's stretch of the list, and the walk over that stretch meets every
  position of the plane.
-/
module

public import proofs.«01_k».proof.Proof.Host
public import proofs.«01_k».proof.Proof.Scatter
public import Mathlib.Order.Interval.Finset.Fin

@[expose] public section

noncomputable section

namespace Cert.Proof.Sorted

open Cert.KernelIdeal Cert.KernelIdeal.Gen Cert.Proof.Model Cert.Proof.Unpool Cert.Proof.Scatter
open Idealize.ShloMosaic

/-! ## The walk -/

section Walk

variable {α : Type} (K : ℕ → ℤ) (V : ℕ → α) (z : α)

/-- The walk leaves at a cell the value of a position that stores there, or what it found. -/
theorem acc_cases (lo : ℕ) (q : ℤ) (n : ℕ) :
    (∃ j, j < n ∧ K (lo + j) = q ∧ acc K V z lo n q = V (lo + j))
    ∨ ((∀ j, j < n → ¬(K (lo + j) = q ∧ K (lo + j) ≠ K (lo + j + 1))) ∧ acc K V z lo n q = z) := by
  induction n with
  | zero => exact Or.inr ⟨fun j h => absurd h (by omega), rfl⟩
  | succ n ih =>
    have e : acc K V z lo (n + 1) q = if K (lo + n) = q ∧ K (lo + n) ≠ K (lo + n + 1) then V (lo + n) else acc K V z lo n q := rfl
    by_cases h : K (lo + n) = q ∧ K (lo + n) ≠ K (lo + n + 1)
    · exact Or.inl ⟨n, by omega, h.1, by rw [e, if_pos h]⟩
    · rw [e, if_neg h]
      rcases ih with ⟨j, h1, h2, h3⟩ | ⟨h1, h2⟩
      · exact Or.inl ⟨j, by omega, h2, h3⟩
      · refine Or.inr ⟨fun j hj => ?_, h2⟩
        rcases Nat.lt_or_ge j n with h' | h'
        · exact h1 j h'
        · rw [show j = n by omega]; exact h

/-- When a key occurs in a stretch but not just after it, one of its positions stores. -/
theorem acc_last (lo : ℕ) (q : ℤ) (n : ℕ) (hn : K (lo + n) ≠ q) (j : ℕ) (hj : j < n) (h : K (lo + j) = q) :
    ∃ k, k < n ∧ K (lo + k) = q ∧ K (lo + k) ≠ K (lo + k + 1) := by
  by_contra hc
  have hall : ∀ d, j + d ≤ n → K (lo + (j + d)) = q := fun d => by
    induction d with
    | zero => intro _; exact h
    | succ d ih =>
      intro hd
      have h1 := ih (by omega)
      by_contra h2
      exact hc ⟨j + d, by omega, h1, by rw [h1]; exact fun e => h2 (by rw [← e.symm]; rfl)⟩
  exact hn (by have := hall (n - j) (by omega); rwa [show j + (n - j) = n by omega] at this)

end Walk

/-! ## Sorting inside the planes -/

/-- A set of numbers that holds with a number all smaller ones is the numbers below its size. -/
theorem mem_iff_lt_card {n : ℕ} (A : Finset (Fin n)) (h : ∀ a b, a ≤ b → b ∈ A → a ∈ A) (r : Fin n) : r ∈ A ↔ r.val < A.card := by
  constructor
  · intro hr
    have := Finset.card_le_card (show Finset.Iic r ⊆ A from fun a ha => h a r (Finset.mem_Iic.mp ha) hr)
    rw [Fin.card_Iic] at this
    omega
  · intro hr
    by_contra hc
    have := Finset.card_le_card (show A ⊆ Finset.Iio r from fun a ha => Finset.mem_Iio.mpr (by
      by_contra h'
      exact hc (h r a (not_lt.mp h') ha)))
    rw [Fin.card_Iio] at this
    omega

/-- A rearrangement that leaves an ascending list ascending leaves it as it was. -/
theorem ascending_fixed {n : ℕ} (f : Fin n → ℕ) (hf : Monotone f) (σ : Fin n → Fin n) (hσ : Function.Bijective σ) (h : Monotone fun r => f (σ r))
    (r : Fin n) : f (σ r) = f r := by
  have key : ∀ p, f (σ r) < p ↔ f r < p := fun p => by
    have hA := mem_iff_lt_card (Finset.univ.filter fun r => f (σ r) < p) (fun a b hab hb => by
      rw [Finset.mem_filter] at hb ⊢; exact ⟨Finset.mem_univ _, lt_of_le_of_lt (h hab) hb.2⟩) r
    have hB := mem_iff_lt_card (Finset.univ.filter fun r => f r < p) (fun a b hab hb => by
      rw [Finset.mem_filter] at hb ⊢; exact ⟨Finset.mem_univ _, lt_of_le_of_lt (hf hab) hb.2⟩) r
    have hc : (Finset.univ.filter fun r => f (σ r) < p).card = (Finset.univ.filter fun r => f r < p).card :=
      Finset.card_bij (fun a _ => σ a) (fun a ha => Finset.mem_filter.mpr ⟨Finset.mem_univ _, (Finset.mem_filter.mp ha).2⟩)
        (fun a _ b _ e => hσ.1 e) (fun b hb => by
          obtain ⟨a, rfl⟩ := hσ.2 b
          exact ⟨a, Finset.mem_filter.mpr ⟨Finset.mem_univ _, (Finset.mem_filter.mp hb).2⟩, rfl⟩)
    rw [Finset.mem_filter] at hA hB
    rw [hc] at hA
    have := hA.trans hB.symm
    simpa using this
  have h1 := key (f r + 1)
  have h2 := key (f (σ r) + 1)
  omega

variable {α : Type}

/-- The walk over plane `p`'s stretch of the sorted list, in terms of the list before the sort. -/
theorem walk_cases (f : Fin 14155776 → ℤ) (v : Fin 14155776 → α) (z : α)
    (hf : ∀ s, ((s.val / 36864 : ℕ) : ℤ) * 147456 ≤ f s ∧ f s < ((s.val / 36864 : ℕ) : ℤ) * 147456 + 147456)
    (σ : Fin 14155776 → Fin 14155776) (hσ : Function.Bijective σ) (hs : ∀ i j, i < j → f (σ i) ≤ f (σ j))
    (K : ℕ → ℤ) (V : ℕ → α) (hK : ∀ r (h : r < 14155776), K r = f (σ ⟨r, h⟩)) (hK' : ∀ r, 14155776 ≤ r → K r = -1)
    (hV : ∀ r (h : r < 14155776), V r = v (σ ⟨r, h⟩)) (p k : ℕ) (hp : p < 384) (hk : k < 147456) :
    (∃ s, f s = ((p * 147456 + k : ℕ) : ℤ) ∧ acc K V z (p * 36864) 36864 ((p * 147456 + k : ℕ) : ℤ) = v s)
    ∨ ((∀ s, f s ≠ ((p * 147456 + k : ℕ) : ℤ)) ∧ acc K V z (p * 36864) 36864 ((p * 147456 + k : ℕ) : ℤ) = z) := by
  have hfix : ∀ r : Fin 14155776, (σ r).val / 36864 = r.val / 36864 := fun r =>
    ascending_fixed (fun s : Fin 14155776 => s.val / 36864) (fun a b hab => Nat.div_le_div_right hab) σ hσ (fun a b hab => by
      rcases eq_or_lt_of_le hab with h | h
      · rw [h]
      · have h1 := hs a b h
        have h2 := hf (σ a)
        have h3 := hf (σ b)
        show (σ a).val / 36864 ≤ (σ b).val / 36864
        omega) r
  -- a position with this key lies in the plane's stretch
  have hmem : ∀ r (h : r < 14155776), f (σ ⟨r, h⟩) = ((p * 147456 + k : ℕ) : ℤ) → r / 36864 = p := fun r h e => by
    have h1 := hf (σ ⟨r, h⟩)
    have h2 : (σ ⟨r, h⟩).val / 36864 = r / 36864 := hfix ⟨r, h⟩
    rw [h2, e] at h1
    omega
  rcases acc_cases K V z (p * 36864) ((p * 147456 + k : ℕ) : ℤ) 36864 with ⟨j, h1, h2, h3⟩ | ⟨h1, h2⟩
  · have hr : p * 36864 + j < 14155776 := by omega
    exact Or.inl ⟨σ ⟨_, hr⟩, by rw [← hK _ hr]; exact h2, by rw [h3, hV _ hr]⟩
  · refine Or.inr ⟨fun s e => ?_, h2⟩
    obtain ⟨r, rfl⟩ := hσ.2 s
    have hr := r.isLt
    have hp' := hmem r.val hr e
    have hnext : K (p * 36864 + 36864) ≠ ((p * 147456 + k : ℕ) : ℤ) := fun e' => by
      by_cases hb : p * 36864 + 36864 < 14155776
      · have := hmem _ hb (by rw [← hK _ hb]; exact e')
        omega
      · rw [hK' _ (by omega)] at e'; omega
    obtain ⟨j, h3, h4⟩ := acc_last K (p * 36864) _ 36864 hnext (r.val - p * 36864) (by omega)
      (by rw [show p * 36864 + (r.val - p * 36864) = r.val by omega, hK _ hr]; exact e)
    exact h1 j h3 h4

/-! ## The lists and the arrays -/

/-- Position `j` in the list. -/
def flat (j : SN.Idx) : Fin 14155776 :=
  ⟨((pb j).val * 96 + (pc j).val) * 36864 + (pn j).val, by have := (pb j).isLt; have := (pc j).isLt; have := (pn j).isLt; omega⟩

/-- Every place of the list is some position's. -/
theorem flat_surj (s : Fin 14155776) : ∃ j, flat j = s := by
  have hs := s.isLt
  refine ⟨ix3 (⟨s.val / 36864 / 96, by omega⟩ : Fin 4) (⟨s.val / 36864 % 96, by omega⟩ : Fin 96) (⟨s.val % 36864, by omega⟩ : Fin 36864), Fin.ext ?_⟩
  show (s.val / 36864 / 96 * 96 + s.val / 36864 % 96) * 36864 + s.val % 36864 = s.val
  omega

variable (ix : SX.Idx → BitVec 32) (x : SX.Idx → α)

/-- Index and value of a position. -/
def ixN : SN.Idx → BitVec 32 := shapeCast SN ix cast_SX_SN
def xN : SN.Idx → α := shapeCast SN x cast_SX_SN

theorem rowMajor_SN (j : SN.Idx) : (SN.rowMajor j).val = ((pb j).val * 96 + (pc j).val) * 36864 + (pn j).val := by
  rw [Shape.rowMajor_val_three]; rfl

theorem rowMajor_list (s : Fin 14155776) : (S14155776.rowMajor (.ofFin s)).val = s.val := by
  rw [Shape.rowMajor_val_one]; rfl

/-- A list reshaped from an array, at position `j`. -/
theorem list_at {β : Type} (y : SX.Idx → β) (h : SX.ShapeCasts S14155776) (j : SN.Idx) :
    shapeCast S14155776 y h (.ofFin (flat j)) = shapeCast SN y cast_SX_SN j :=
  shapeCast_apply y h _ (Shape.reshapeEquiv cast_SX_SN j)
    ((Shape.rowMajor_reshapeEquiv cast_SX_SN j).trans ((rowMajor_SN j).trans (rowMajor_list (flat j)).symm))

/-- The plane of a position. -/
def plane (j : SN.Idx) : Fin 384 := ⟨(pb j).val * 96 + (pc j).val, by have := (pb j).isLt; have := (pc j).isLt; omega⟩

/-- Position `j`'s key: its plane's base plus its index. -/
theorem keys_at (j : SN.Idx) : keys ix (.ofFin (flat j)) = BitVec.ofNat 32 (plane j).val * 147456#32 + ixN ix j := by
  have hpl : (flat j).val = (plane j).val * 36864 + (pn j).val := rfl
  have e : (S384x36864.rowMajor (ix2 (plane j) (pn j))).val = (flat j).val := by
    rw [Shape.rowMajor_val_two]; exact hpl.symm
  have e1 : shapeCast S384x36864 ix shapeCasts_S4x96x192x192_S384x36864 (ix2 (plane j) (pn j)) = ixN ix j :=
    shapeCast_apply ix _ _ (Shape.reshapeEquiv cast_SX_SN j)
      ((Shape.rowMajor_reshapeEquiv cast_SX_SN j).trans ((rowMajor_SN j).trans e.symm))
  unfold keys
  rw [shapeCast_apply _ shapeCasts_S384x36864_S14155776 (.ofFin (flat j)) (ix2 (plane j) (pn j)) (e.trans (rowMajor_list (flat j)).symm)]
  show shapeCast S384x36864 ix shapeCasts_S4x96x192x192_S384x36864 (ix2 (plane j) (pn j)) + _ = _
  rw [e1, BitVec.add_comm]
  refine congrArg (· + ixN ix j) ?_
  pointwise
  rfl

variable (hi : ∀ j, (ixN ix j).toNat < 147456)

include hi in
theorem keys_toInt (j : SN.Idx) : (keys ix (.ofFin (flat j))).toInt = (((plane j).val * 147456 + (ixN ix j).toNat : ℕ) : ℤ) := by
  have h1 := hi j
  have h2 := (plane j).isLt
  rw [keys_at, BitVec.toInt_eq_toNat_cond, BitVec.toNat_add, BitVec.toNat_mul, BitVec.toNat_ofNat, show (147456#32 : BitVec 32).toNat = 147456 from rfl]
  have e : ((plane j).val % 2 ^ 32 * 147456 % 2 ^ 32 + (ixN ix j).toNat) % 2 ^ 32 = (plane j).val * 147456 + (ixN ix j).toNat := by omega
  rw [e, if_pos (by omega)]

variable {F : FTy → Type} [FloatOps F] (m : (ℓ : Idealize.ShloMosaic.Loc nD τ sig) → Buf (Elt F) ℓ)

/-- The kernel's result at a cell: the value of a position sent there, or zero when none is. -/
theorem out_cases (d : Dev nD) (hin : ∀ j, (ixN (m (d, a1')) j).toNat < 147456) (z : F .f32) (q : SO.Idx) (y : S384x147456.Idx)
    (hy : (y 0).val = (q 0).val * 96 + (q 1).val ∧ (y 1).val = (q 2).val) :
    (∃ j, cell (ixN (m (d, a1'))) hin j = q ∧ outOf z (si m d) (sv m d) y = xN (m (d, a0')) j)
    ∨ ((∀ j, cell (ixN (m (d, a1'))) hin j ≠ q) ∧ outOf z (si m d) (sv m d) y = z) := by
  obtain ⟨σ, hσ, h1, h2, h3⟩ := si_sv m d
  have hq0 : (q 0).val < 4 := (q 0).isLt
  have hq1 : (q 1).val < 96 := (q 1).isLt
  have hq2 : (q 2).val < 147456 := (q 2).isLt
  -- a position's key names the cell it is sent to
  have hcell : ∀ j, (keys (m (d, a1')) (.ofFin (flat j))).toInt = (((y 0).val * 147456 + (y 1).val : ℕ) : ℤ) ↔ cell (ixN (m (d, a1'))) hin j = q := fun j => by
    rw [keys_toInt _ hin j, hy.1, hy.2]
    have hj := hin j
    have hb := (pb j).isLt
    have hc := (pc j).isLt
    have hp : (plane j).val = (pb j).val * 96 + (pc j).val := rfl
    constructor
    · intro e
      rw [hp] at e
      funext a
      apply Fin.ext
      match a with
      | ⟨0, _⟩ => show (pb j).val = (q 0).val; omega
      | ⟨1, _⟩ => show (pc j).val = (q 1).val; omega
      | ⟨2, _⟩ => show (ixN (m (d, a1')) j).toNat = (q 2).val; omega
    · rintro rfl
      rfl
  have hf : ∀ s : Fin 14155776, ((s.val / 36864 : ℕ) : ℤ) * 147456 ≤ (keys (m (d, a1')) (.ofFin s)).toInt
      ∧ (keys (m (d, a1')) (.ofFin s)).toInt < ((s.val / 36864 : ℕ) : ℤ) * 147456 + 147456 := fun s => by
    obtain ⟨j, rfl⟩ := flat_surj s
    have e : (flat j).val / 36864 = (plane j).val := by
      have := (pn j).isLt
      show ((plane j).val * 36864 + (pn j).val) / 36864 = _
      omega
    have hj := hin j
    rw [keys_toInt _ hin j, e]
    omega
  have hw := walk_cases (fun s => (keys (m (d, a1')) (.ofFin s)).toInt) (fun s => vals (m (d, a0')) (.ofFin s)) z hf σ hσ h3
    (key (si m d)) (val (sv m d) z) (fun r h => by unfold key; rw [dif_pos h, h1 ⟨r, h⟩]) (fun r h => by unfold key; rw [dif_neg (by omega)])
    (fun r h => by unfold val; rw [dif_pos h, h2 ⟨r, h⟩]) (y 0).val (y 1).val (y 0).isLt (y 1).isLt
  rcases hw with ⟨s, h4, h5⟩ | ⟨h4, h5⟩
  · obtain ⟨j, rfl⟩ := flat_surj s
    exact Or.inl ⟨j, (hcell j).mp h4, h5.trans (list_at (m (d, a0')) shapeCasts_S4x96x192x192_S14155776 j)⟩
  · exact Or.inr ⟨fun j e => h4 (flat j) ((hcell j).mpr e), h5⟩

end Cert.Proof.Sorted

end
-- ==== Proof.Value.lean ====
/-
  The value claims: the kernel's result against the reference's, at the cells whose answer does not depend on the order of equal
  indices, and against the values sent, at every cell.
-/
module

public import proofs.«01_k».proof.Defs
public import proofs.«01_k».proof.Proof.Gen.ReferenceIdeal
public import proofs.«01_k».proof.Proof.Gen.ReferenceIdeal.Run
public import proofs.«01_k».proof.Proof.Launch
public import proofs.«01_k».proof.Proof.Sorted
public import Idealize.ShloMosaic.Lib.ReduceAll

@[expose] public section

noncomputable section

/-! ## The side conditions of the three functions -/

instance Cert.Pre_in_plane.factsProved : Cert.Pre_in_plane.Facts where
  bcast_S_S4x96x192x192 := by decide
  reducesTo_S4x96x192x192_S_d0_1_2_3 := by decide
  h_S_ := by decide

instance Cert.On_settled.factsProved : Cert.On_settled.Facts where
  shapeCasts_S4x96x192x192_S4x96x36864 := Cert.Proof.Scatter.cast_SX_SN
  bcast_S4_S4x1x1_0 := Cert.Proof.Scatter.bc_SB
  bcast_S96_S1x96x1_1 := Cert.Proof.Scatter.bc_SC
  bcast_S_S4x96x147456 := Cert.Proof.Scatter.bc_0_SO
  bcast_S_S4x1x1 := Cert.Proof.Scatter.bc_0_SB3
  bcast_S_S1x96x1 := Cert.Proof.Scatter.bc_0_SC3
  bcast_S_S4x96x36864 := Cert.Proof.Scatter.bc_0_SN
  bcast_S4x1x1_S4x96x36864_0_1_2 := Cert.Proof.Scatter.bc_SB3_SN
  bcast_S1x96x1_S4x96x36864_0_1_2 := Cert.Proof.Scatter.bc_SC3_SN
  bcast_S4x96x36864_S4x96x36864x1_0_1_2 := Cert.Proof.Scatter.bc_SN_SN1
  concatenates_S4x96x36864x1_S4x96x36864x1_S4x96x36864x1_S4x96x36864x3_d3 := Cert.Proof.Scatter.cat
  shapeCasts_S4x96x147456_S4x96x384x384 := Cert.Proof.Scatter.cast_SO_SR
  shapeCasts_S4x96x384x384_S4x96x147456 := Cert.Proof.Scatter.cast_SR_SO
  natLt_1_32 := by decide
  scatter_S4x96x147456_S4x96x36864x3_S4x96x36864_n_012_012_3_wf := Cert.Proof.Scatter.lands.wf
  gather_S4x96x147456_S4x96x36864x3_S4x96x36864_n_012_n_n_012_3_111_wf := Cert.Proof.Scatter.readers.wf

instance Cert.Post_one_of_those_sent.factsProved : Cert.Post_one_of_those_sent.Facts where
  shapeCasts_S4x96x192x192_S4x96x36864 := Cert.Proof.Scatter.cast_SX_SN
  bcast_S_S4x96x36864 := Cert.Proof.Scatter.bc_0_SN
  bcast_S4_S4x1x1_0 := Cert.Proof.Scatter.bc_SB
  bcast_S96_S1x96x1_1 := Cert.Proof.Scatter.bc_SC
  bcast_S_S4x96x147456 := Cert.Proof.Scatter.bc_0_SO
  natLt_1_32 := by decide
  bcast_S_S4x1x1 := Cert.Proof.Scatter.bc_0_SB3
  bcast_S_S1x96x1 := Cert.Proof.Scatter.bc_0_SC3
  bcast_S4x1x1_S4x96x36864_0_1_2 := Cert.Proof.Scatter.bc_SB3_SN
  bcast_S1x96x1_S4x96x36864_0_1_2 := Cert.Proof.Scatter.bc_SC3_SN
  bcast_S4x96x36864_S4x96x36864x1_0_1_2 := Cert.Proof.Scatter.bc_SN_SN1
  concatenates_S4x96x36864x1_S4x96x36864x1_S4x96x36864x1_S4x96x36864x3_d3 := Cert.Proof.Scatter.cat
  shapeCasts_S4x96x384x384_S4x96x147456 := Cert.Proof.Scatter.cast_SR_SO
  scatter_S4x96x147456_S4x96x36864x3_S4x96x36864_n_012_012_3_wf := Cert.Proof.Scatter.lands.wf
  gather_S4x96x147456_S4x96x36864x3_S4x96x36864_n_012_n_n_012_3_111_wf := Cert.Proof.Scatter.readers.wf

namespace Cert.Proof.Value

open Cert.Proof.Scatter Cert.Proof.Sorted Cert.Proof.Unpool
open Idealize.ShloMosaic Idealize.SL.Sem

/-! ## Operations at an index -/

section Reading

variable {s t u : Shape} {α : Type}

theorem cmpf_at (p : CmpFPredicate) (a b : FVec Ideal s .f32) (j : s.Idx) : cmpf p a b j = Ideal.cmp p (a j) (b j) := rfl
theorem cmpi_at (p : CmpIPredicate) (a b : IVec s 32) (j : s.Idx) : cmpi p a b j = IntOp.cmpi p (a j) (b j) := rfl
theorem select_at (c : IVec s 1) (a b : s.Idx → α) (j : s.Idx) : select c a b j = if c j = 1#1 then a j else b j := rfl
theorem cmp_oeq_self (a : Ideal .f32) : Ideal.cmp .oeq a a = 1#1 := by unfold Ideal.cmp; simp
theorem eq_of_cmp_une (a b : Ideal .f32) (h : Ideal.cmp .une a b = 0#1) : a = b := by
  by_contra hc
  unfold Ideal.cmp at h
  simp only [ne_eq, hc, not_false_eq_true, decide_true] at h
  exact absurd h (by decide)

theorem cast_at (v : s.Idx → α) (h : s.ShapeCasts t) (i : t.Idx) : shapeCast t v h i = v (Shape.reshapeEquiv h i) := rfl

/-- An array reshaped twice, at an index. -/
theorem cast_cast (v : s.Idx → α) (h : s.ShapeCasts t) (h' : t.ShapeCasts u) (q : u.Idx) (y : s.Idx)
    (hy : (s.rowMajor y).val = (u.rowMajor q).val) : shapeCast u (shapeCast t v h) h' q = v y :=
  shapeCast_apply v h _ y (hy.trans (Shape.rowMajor_reshapeEquiv h' q).symm)

end Reading

/-! ## The functions, in the vocabulary of cells -/

def zeros : SO.Idx → BitVec 32 := broadcastInDim SO ![] bc_0_SO (constantI S0 32 0#32)
def fzeros : SO.Idx → Ideal .f32 := broadcastInDim SO ![] bc_0_SO (constant (F := Ideal) S0 .f32 0x00000000#32)

theorem zeros_at (q : SO.Idx) : zeros q = 0#32 := rfl
theorem fzeros_at (q : SO.Idx) : fzeros q = Scalar.ofBits .f32 0x00000000#32 := rfl
def ones : SN.Idx → BitVec 1 := broadcastInDim SN ![] bc_0_SN (constantI S0 1 1#1)
theorem ones_at (j : SN.Idx) : ones j = 1#1 := rfl

/-- How many of the positions sent to each cell are flagged. -/
def count (i : SN.Idx → BitVec 32) (w : SN.Idx → BitVec 1) : SO.Idx → BitVec 32 :=
  Host.scatter lands IntOp.addi zeros (table i) (extui 32 w (by decide))

variable (x : SX.Idx → Ideal .f32) (ix : SX.Idx → BitVec 32)

/-- The reference's result, as planes. -/
def refO : SO.Idx → Ideal .f32 := Host.scatter lands (fun _ b => b) fzeros (table (ixN ix)) (xN x)

theorem on_eq : Cert.On_settled.fn (F := Ideal) x ix = shapeCast SR (cmpi .eq (count (ixN ix)
    (cmpf .une (Host.gather readers (shapeCast SO (shapeCast SR (refO x ix) cast_SO_SR) cast_SR_SO) (table (ixN ix))) (xN x))) zeros) cast_SO_SR := rfl

theorem post_eq (o : SR.Idx → Ideal .f32) : Cert.Post_one_of_those_sent.fn (F := Ideal) x ix o
    = select (cmpi .eq (count (ixN ix) ones) zeros) (cmpf .oeq (shapeCast SO o cast_SR_SO) fzeros)
        (cmpi .sgt (count (ixN ix) (cmpf .oeq (Host.gather readers (shapeCast SO o cast_SR_SO) (table (ixN ix))) (xN x))) zeros) := rfl

/-- Under the precondition every index lies in its plane. -/
theorem in_plane (h : Cert.Pre_in_plane.fn (F := Ideal) x ix = fun _ => 1#1) (j : SN.Idx) : (ixN ix j).toNat < 147456 := by
  have h0 := congrFun h (fun a => a.elim0)
  have h1 := Host.reduce_andi_all _ _ _ _ _ h0 (Shape.reshapeEquiv cast_SX_SN j)
  obtain ⟨h2, h3⟩ := IntOp.andi_eq_one.mp h1
  have h4 : (0#32 : BitVec 32).toInt ≤ (ixN ix j).toInt := IntOp.cmpi_sge.mp h2
  have h5 : (ixN ix j).toInt < (147456#32 : BitVec 32).toInt := IntOp.cmpi_slt.mp h3
  rw [show (0#32 : BitVec 32).toInt = 0 from rfl] at h4
  rw [show (147456#32 : BitVec 32).toInt = 147456 from rfl] at h5
  rw [BitVec.toInt_eq_toNat_cond] at h4 h5
  have := (ixN ix j).isLt
  split at h4 <;> omega

variable (hin : ∀ j, (ixN ix j).toNat < 147456)

theorem count_iff (w : SN.Idx → BitVec 1) (q : SO.Idx) :
    (count (ixN ix) w q = 0#32 ↔ ∀ j, cell (ixN ix) hin j = q → w j = 0#1)
    ∧ ((∃ j, cell (ixN ix) hin j = q ∧ w j = 1#1) → 0 < (count (ixN ix) w q).toInt) := by
  have hw : ∀ j, (extui 32 w (by decide) j : BitVec 32).toNat = (w j).toNat := fun j => by
    show ((w j).setWidth 32).toNat = _
    rw [BitVec.toNat_setWidth]
    have := (w j).isLt
    omega
  have h0 : ∀ j, (extui 32 w (by decide) j : BitVec 32) = 0#32 ↔ w j = 0#1 := fun j =>
    ⟨fun h => BitVec.eq_of_toNat_eq (by rw [← hw j, h]; rfl), fun h => BitVec.eq_of_toNat_eq (by rw [hw j, h]; rfl)⟩
  obtain ⟨h1, h2⟩ := count_at (ixN ix) hin zeros (fun _ => rfl) (extui 32 w (by decide)) (fun j => by rw [hw j]; have := (w j).isLt; omega) q
  refine ⟨h1.trans ?_, fun ⟨j, h, h'⟩ => h2 ⟨j, h, ?_⟩⟩
  · simp only [h0]
  · rw [Ne, h0, h']; decide

/-! ## The two claims at a cell -/

/-- At a settled cell the reference holds what every position sent there carries, and zero when none is sent. -/
theorem ref_at (q : SO.Idx) (hs : cmpi .eq (count (ixN ix)
      (cmpf .une (Host.gather readers (shapeCast SO (shapeCast SR (refO x ix) cast_SO_SR) cast_SR_SO) (table (ixN ix))) (xN x))) zeros q = 1#1) (v : Ideal .f32)
    (hv : (∃ j, cell (ixN ix) hin j = q ∧ v = xN x j) ∨ ((∀ j, cell (ixN ix) hin j ≠ q) ∧ v = Scalar.ofBits .f32 0x00000000#32)) : refO x ix q = v := by
  rcases hv with ⟨j, hj, rfl⟩ | ⟨hn, rfl⟩
  · rw [cmpi_at, zeros_at, IntOp.cmpi_eq, (count_iff ix hin _ q).1] at hs
    have h1 := hs j hj
    rw [shapeCast_shapeCast, cmpf_at, reads_at (ixN ix) hin, hj] at h1
    exact eq_of_cmp_une _ _ h1
  · exact set_none (ixN ix) hin fzeros (xN x) q hn

/-- A result that holds at each cell the value of a position sent there, or zero when there is none, is one the second claim admits. -/
theorem post_at (o : SR.Idx → Ideal .f32) (h : ∀ q : SO.Idx, (∃ j, cell (ixN ix) hin j = q ∧ shapeCast SO o cast_SR_SO q = xN x j)
      ∨ ((∀ j, cell (ixN ix) hin j ≠ q) ∧ shapeCast SO o cast_SR_SO q = Scalar.ofBits .f32 0x00000000#32)) :
    Cert.Post_one_of_those_sent.fn (F := Ideal) x ix o = fun _ => 1#1 := by
  rw [post_eq]
  funext q
  have hnone := (IntOp.cmpi_eq (x := count (ixN ix) ones q) (y := 0#32)).trans (count_iff ix hin ones q).1
  rw [select_at, cmpi_at, zeros_at]
  rcases h q with ⟨j, hj, hv⟩ | ⟨hn, hv⟩
  · rw [if_neg fun e => absurd ((ones_at j).symm.trans (hnone.mp e j hj)) (by decide), cmpi_at, zeros_at]
    refine IntOp.cmpi_sgt.mpr ((count_iff ix hin _ q).2 ⟨j, hj, ?_⟩)
    rw [cmpf_at, reads_at (ixN ix) hin, hj, hv]
    exact cmp_oeq_self _
  · rw [if_pos (hnone.mpr fun j hj => absurd hj (hn j)), cmpf_at, hv, fzeros_at]
    exact cmp_oeq_self _

/-! ## The kernel's result -/

variable (m : (ℓ : Loc Cert.KernelIdeal.nD Cert.KernelIdeal.τ Cert.KernelIdeal.sig) → Buf (Elt Ideal) ℓ)

/-- The kernel's result as planes, at a cell. -/
theorem res_cases (d : Dev Cert.KernelIdeal.nD) (hin : ∀ j, (ixN (m (d, a1')) j).toNat < 147456) (q : SO.Idx) :
    (∃ j, cell (ixN (m (d, a1'))) hin j = q ∧ shapeCast SO (res m d) cast_SR_SO q = xN (m (d, a0')) j)
    ∨ ((∀ j, cell (ixN (m (d, a1'))) hin j ≠ q) ∧ shapeCast SO (res m d) cast_SR_SO q = Scalar.ofBits .f32 0x00000000#32) := by
  have hq0 : (q 0).val < 4 := (q 0).isLt
  have hq1 : (q 1).val < 96 := (q 1).isLt
  let y : Cert.KernelIdeal.S384x147456.Idx := ix2 (⟨(q 0).val * 96 + (q 1).val, by omega⟩ : Fin 384) (⟨(q 2).val, (q 2).isLt⟩ : Fin 147456)
  have e : shapeCast SO (res m d) cast_SR_SO q = outV m d y := by
    unfold res
    exact cast_cast _ _ _ q y (by rw [Shape.rowMajor_val_two, Shape.rowMajor_val_three]; rfl)
  rw [e]
  exact out_cases m d hin zero q y ⟨rfl, rfl⟩

/-- Where the mask is set, the reference's result is the kernel's. -/
theorem settled_eq (d : Dev Cert.KernelIdeal.nD) (hp : Cert.Pre_in_plane.fn (F := Ideal) (m (d, a0')) (m (d, a1')) = fun _ => 1#1) (i : SR.Idx)
    (hi : Cert.On_settled.fn (F := Ideal) (m (d, a0')) (m (d, a1')) i = 1#1) : shapeCast SR (refO (m (d, a0')) (m (d, a1'))) cast_SO_SR i = res m d i := by
  have hin := in_plane (m (d, a0')) (m (d, a1')) hp
  rw [on_eq, cast_at] at hi
  rw [cast_at, ref_at (m (d, a0')) (m (d, a1')) hin _ hi _ (res_cases m d hin _), ← cast_at (shapeCast SO (res m d) cast_SR_SO) cast_SO_SR i, shapeCast_shapeCast]

/-- The kernel's result is one the second claim admits. -/
theorem res_post (d : Dev Cert.KernelIdeal.nD) (hp : Cert.Pre_in_plane.fn (F := Ideal) (m (d, a0')) (m (d, a1')) = fun _ => 1#1) :
    Cert.Post_one_of_those_sent.fn (F := Ideal) (m (d, a0')) (m (d, a1')) (res m d) = fun _ => 1#1 :=
  post_at _ _ (in_plane _ _ hp) (res m d) (res_cases m d (in_plane _ _ hp))

/-- The reference's run, its result in the vocabulary of cells. -/
theorem ref_run (m' : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ fun r => ∀ c : Dev Cert.ReferenceIdeal.nD,
      r.2.mem ((c.tc : Thread Cert.ReferenceIdeal.nD Cert.ReferenceIdeal.τ).loc Cert.ReferenceIdeal.main_v29)
          = shapeCast SR (refO (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))) cast_SO_SR
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) :=
  Cert.ReferenceIdeal.Value.run (F := Ideal) m' g

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel's frame: the run over any floats, at words. -/
theorem frame_kernel : Cert.quiescent_Kernel := fun m ρ _ =>
  (θ_run Cert.KernelIdeal.defs _ _).mono (fun _ h => ⟨fun c => ⟨(h.1 c).1, (h.1 c).2.1⟩, h.2⟩) (Unpool.run_main (F := Bits) m ρ)

/-- The same run, at the extended reals. -/
theorem frame_ideal : Cert.quiescent_KernelIdeal := fun m ρ _ =>
  (θ_run Cert.KernelIdeal.defs _ _).mono (fun _ h => ⟨fun c => ⟨(h.1 c).1, (h.1 c).2.1⟩, h.2⟩) (Unpool.run_main (F := Ideal) m ρ)

/-- The reference's frame: it declares no semaphore, and none of its operations writes an argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the mask is set, the kernel and the reference hold the same value. -/
theorem equal_settled : Cert.algebraic_KernelIdeal_ReferenceIdeal_on_settled_pre_in_plane := fun m g m' g' hp hm =>
  ⟨fun c => Unpool.res m c,
    (θ_run Cert.KernelIdeal.defs _ _).mono (fun _ h c => ⟨fun i _ => congrFun (h.1 c).2.2 i, (h.1 c).1, (h.1 c).2.1⟩) (Unpool.run_main (F := Ideal) m g),
    (θ_run Cert.ReferenceIdeal.defs _ _).mono (fun r h c => ⟨fun i hi => by
        have e := congrFun (h c).1 i
        rw [(hm c).1, (hm c).2] at e
        exact e.trans (Value.settled_eq m c (hp c) i hi), (h c).2⟩)
      (Value.ref_run m' g')⟩

/-- Every cell of the kernel's result holds a value sent there, or zero when none is. -/
theorem holds_sent : Cert.holds_KernelIdeal_one_of_those_sent_pre_in_plane := fun m g hp =>
  (θ_run Cert.KernelIdeal.defs _ _).mono (fun r h c => ⟨(h.1 c).1, (h.1 c).2.1, by
      have e := Value.res_post m c (hp c)
      rw [← (h.1 c).2.2] at e
      exact e⟩) (Unpool.run_main (F := Ideal) m g)

theorem claim : Cert.Claim :=
  ⟨Cert.Kernel.Gen.facts, Cert.KernelIdeal.Gen.facts, Cert.ReferenceIdeal.Gen.facts, Cert.Pre_in_plane.factsProved, Cert.Post_one_of_those_sent.factsProved,
    Cert.On_settled.factsProved, frame_kernel, frame_ideal, fun m g _ => frame_ideal m g trivial, frame_reference, fun m g _ => frame_reference m g trivial, trivial,
    equal_settled, holds_sent⟩

end Cert.Proof

end
